-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S8x2048 : Shape := ⟨2, ![8, 2048]⟩
abbrev S8 : Shape := ⟨1, ![8]⟩
abbrev S8x256x2048 : Shape := ⟨3, ![8, 256, 2048]⟩
abbrev S8x256 : Shape := ⟨2, ![8, 256]⟩
abbrev S8x2048x256 : Shape := ⟨3, ![8, 2048, 256]⟩
abbrev S2048x2048 : Shape := ⟨2, ![2048, 2048]⟩
abbrev S2048 : Shape := ⟨1, ![2048]⟩
abbrev S_ : Shape := ⟨0, ![]⟩
abbrev S128x2048 : Shape := ⟨2, ![128, 2048]⟩
abbrev S128 : Shape := ⟨1, ![128]⟩
abbrev S1x128 : Shape := ⟨2, ![1, 128]⟩
abbrev S1x2048 : Shape := ⟨2, ![1, 2048]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 52
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S8x2048, .f32⟩
  | .hbm, ⟨2, _⟩ => ⟨S8, .f32⟩
  | .hbm, ⟨3, _⟩ => ⟨S8x256x2048, .f32⟩
  | .hbm, ⟨4, _⟩ => ⟨S8x256, .f32⟩
  | .hbm, ⟨5, _⟩ => ⟨S8x2048x256, .f32⟩
  | .hbm, ⟨6, _⟩ => ⟨S8x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S_, .i32⟩
  | .hbm, ⟨12, _⟩ => ⟨S_, .f32⟩
  | .hbm, ⟨13, _⟩ => ⟨S128x2048, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S2048x2048, .f32⟩
  | .hbm, ⟨19, _⟩ => ⟨S1x2048, .f32⟩
  | .hbm, ⟨20, _⟩ => ⟨S8x256x2048, .f32⟩
  | .hbm, ⟨21, _⟩ => ⟨S2048x2048, .f32⟩
  | .hbm, ⟨22, _⟩ => ⟨S_, .i32⟩
  | .hbm, ⟨23, _⟩ => ⟨S_, .f32⟩
  | .hbm, ⟨24, _⟩ => ⟨S128x2048, .f32⟩
  | .hbm, ⟨25, _⟩ => ⟨S128x2048, .i32⟩
  | .hbm, ⟨26, _⟩ => ⟨S_, .i32⟩
  | .hbm, ⟨27, _⟩ => ⟨S_, .i32⟩
  | .hbm, ⟨28, _⟩ => ⟨S128x2048, .i32⟩
  | .hbm, ⟨29, _⟩ => ⟨S128x2048, .i32⟩
  | .hbm, ⟨30, _⟩ => ⟨S128x2048, .i32⟩
  | .hbm, ⟨31, _⟩ => ⟨S_, .i32⟩
  | .hbm, ⟨32, _⟩ => ⟨S128x2048, .i32⟩
  | .hbm, ⟨33, _⟩ => ⟨S128x2048, .i1⟩
  | .hbm, ⟨34, _⟩ => ⟨S128x2048, .i32⟩
  | .hbm, ⟨35, _⟩ => ⟨S128x2048, .i32⟩
  | .hbm, ⟨36, _⟩ => ⟨S_, .i32⟩
  | .hbm, ⟨37, _⟩ => ⟨S128x2048, .i32⟩
  | .hbm, ⟨38, _⟩ => ⟨S128x2048, .i1⟩
  | .hbm, ⟨39, _⟩ => ⟨S128x2048, .i1⟩
  | .hbm, ⟨40, _⟩ => ⟨S_, .i32⟩
  | .hbm, ⟨41, _⟩ => ⟨S128x2048, .i32⟩
  | .hbm, ⟨42, _⟩ => ⟨S128x2048, .i32⟩
  | .hbm, ⟨43, _⟩ => ⟨S128x2048, .i32⟩
  | .hbm, ⟨44, _⟩ => ⟨S128x2048, .i32⟩
  | .hbm, ⟨45, _⟩ => ⟨S128x2048, .i1⟩
  | .hbm, ⟨46, _⟩ => ⟨S128x2048, .f32⟩
  | .hbm, ⟨47, _⟩ => ⟨S4096x2048, .f32⟩
  | .hbm, ⟨48, _⟩ => ⟨S1x2048, .f32⟩
  | .hbm, ⟨49, _⟩ => ⟨S1x2048, .f32⟩
  | .hbm, ⟨50, _⟩ => ⟨S4096x2048, .f32⟩
  | .hbm, ⟨51, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S128x2048, .f32⟩
  | .local _ .vmem, ⟨3, _⟩ => ⟨S1x128, .f32⟩
  | .local _ .vmem, ⟨4, _⟩ => ⟨S2048x2048, .f32⟩
  | .local _ .vmem, ⟨5, _⟩ => ⟨S1x2048, .f32⟩
  | .local _ .vmem, ⟨6, _⟩ => ⟨S2048x2048, .f32⟩
  | .local _ .vmem, ⟨7, _⟩ => ⟨S128x2048, .f32⟩
  | .local _ .vmem, ⟨8, _⟩ => ⟨S128x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S2048x2048, .f32⟩
  | .local _ .vmem, ⟨14, _⟩ => ⟨S1x2048, .f32⟩
  | .local _ .vmem, ⟨15, _⟩ => ⟨S2048x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_call3_v5 : Ref sig .tc := ⟨.hbm, 32, rfl⟩
abbrev main_call3_v6 : Ref sig .tc := ⟨.hbm, 33, rfl⟩
abbrev main_call3_v7 : Ref sig .tc := ⟨.hbm, 34, rfl⟩
abbrev main_call3_v8 : Ref sig .tc := ⟨.hbm, 35, rfl⟩
abbrev main_call3_c : Ref sig .tc := ⟨.hbm, 36, rfl⟩
abbrev main_call3_v9 : Ref sig .tc := ⟨.hbm, 37, rfl⟩
abbrev main_call3_v10 : Ref sig .tc := ⟨.hbm, 38, rfl⟩
abbrev main_call3_v11 : Ref sig .tc := ⟨.hbm, 39, rfl⟩
abbrev main_call3_c_0 : Ref sig .tc := ⟨.hbm, 40, rfl⟩
abbrev main_call3_v12 : Ref sig .tc := ⟨.hbm, 41, rfl⟩
abbrev main_call3_v13 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16_0 : Ref sig .tc := ⟨.hbm, 50, rfl⟩
abbrev main_v16_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S4096x2048 : Shape := ⟨2, ![4096, 2048]⟩
abbrev S8x2048 : Shape := ⟨2, ![8, 2048]⟩
abbrev S8 : Shape := ⟨1, ![8]⟩
abbrev S8x256x2048 : Shape := ⟨3, ![8, 256, 2048]⟩
abbrev S8x256 : Shape := ⟨2, ![8, 256]⟩
abbrev S8x2048x256 : Shape := ⟨3, ![8, 2048, 256]⟩
abbrev S2048x2048 : Shape := ⟨2, ![2048, 2048]⟩
abbrev S2048 : Shape := ⟨1, ![2048]⟩
abbrev S2048x8 : Shape := ⟨2, ![2048, 8]⟩
abbrev S4096x8 : Shape := ⟨2, ![4096, 8]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S4096x2x1 : Shape := ⟨3, ![4096, 2, 1]⟩
abbrev S1x1x8 : Shape := ⟨3, ![1, 1, 8]⟩
abbrev S4096x2x8 : Shape := ⟨3, ![4096, 2, 8]⟩
abbrev S4096x8x256 : Shape := ⟨3, ![4096, 8, 256]⟩
abbrev S1x8x256 : Shape := ⟨3, ![1, 8, 256]⟩
abbrev S4096x8x1 : Shape := ⟨3, ![4096, 8, 1]⟩
abbrev S1x2048 : Shape := ⟨2, ![1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2048, .f32⟩
  | .hbm, ⟨2, _⟩ => ⟨S8, .f32⟩
  | .hbm, ⟨3, _⟩ => ⟨S8x256x2048, .f32⟩
  | .hbm, ⟨4, _⟩ => ⟨S8x256, .f32⟩
  | .hbm, ⟨5, _⟩ => ⟨S8x2048x256, .f32⟩
  | .hbm, ⟨6, _⟩ => ⟨S8x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x8, .f32⟩
  | .hbm, ⟨12, _⟩ => ⟨S4096x8, .f32⟩
  | .hbm, ⟨13, _⟩ => ⟨S1x8, .f32⟩
  | .hbm, ⟨14, _⟩ => ⟨S4096x8, .f32⟩
  | .hbm, ⟨15, _⟩ => ⟨S4096x8, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x8, .f32⟩
  | .hbm, ⟨29, _⟩ => ⟨S4096x8, .f32⟩
  | .hbm, ⟨30, _⟩ => ⟨S4096x2, .f32⟩
  | .hbm, ⟨31, _⟩ => ⟨S4096x2, .i32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x2, .f32⟩
  | .hbm, ⟨36, _⟩ => ⟨S4096x2, .f32⟩
  | .hbm, ⟨37, _⟩ => ⟨S4096x2x1, .i32⟩
  | .hbm, ⟨38, _⟩ => ⟨S1x1x8, .i32⟩
  | .hbm, ⟨39, _⟩ => ⟨S4096x2x8, .i32⟩
  | .hbm, ⟨40, _⟩ => ⟨S4096x2x8, .i32⟩
  | .hbm, ⟨41, _⟩ => ⟨S4096x2x8, .i1⟩
  | .hbm, ⟨42, _⟩ => ⟨S4096x2x8, .f32⟩
  | .hbm, ⟨43, _⟩ => ⟨S4096x2x1, .f32⟩
  | .hbm, ⟨44, _⟩ => ⟨S4096x2x8, .f32⟩
  | .hbm, ⟨45, _⟩ => ⟨S4096x2x8, .f32⟩
  | .hbm, ⟨46, _⟩ => ⟨S_, .f32⟩
  | .hbm, ⟨47, _⟩ => ⟨S4096x8, .f32⟩
  | .hbm, ⟨48, _⟩ => ⟨S4096x8x256, .f32⟩
  | .hbm, ⟨49, _⟩ => ⟨S1x8x256, .f32⟩
  | .hbm, ⟨50, _⟩ => ⟨S4096x8x256, .f32⟩
  | .hbm, ⟨51, _⟩ => ⟨S4096x8x256, .f32⟩
  | .hbm, ⟨52, _⟩ => ⟨S_, .f32⟩
  | .hbm, ⟨53, _⟩ => ⟨S4096x8x256, .f32⟩
  | .hbm, ⟨54, _⟩ => ⟨S4096x8x256, .f32⟩
  | .hbm, ⟨55, _⟩ => ⟨S4096x8x1, .f32⟩
  | .hbm, ⟨56, _⟩ => ⟨S4096x8x256, .f32⟩
  | .hbm, ⟨57, _⟩ => ⟨S4096x8x256, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S2048x2048, .f32⟩
  | .hbm, ⟨62, _⟩ => ⟨S4096x2048, .f32⟩
  | .hbm, ⟨63, _⟩ => ⟨S1x2048, .f32⟩
  | .hbm, ⟨64, _⟩ => ⟨S4096x2048, .f32⟩
  | .hbm, ⟨65, _⟩ => ⟨S4096x2048, .f32⟩
  | .hbm, ⟨66, _⟩ => ⟨S2048x2048, .f32⟩
  | .hbm, ⟨67, _⟩ => ⟨S4096x2048, .f32⟩
  | .hbm, ⟨68, _⟩ => ⟨S1x2048, .f32⟩
  | .hbm, ⟨69, _⟩ => ⟨S4096x2048, .f32⟩
  | .hbm, ⟨70, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_values : Ref sig .tc := ⟨.hbm, 30, rfl⟩
abbrev main_indices : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_cst : Ref sig .tc := ⟨.hbm, 52, rfl⟩
abbrev main_call1_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== Proof.Run.lean ====
/- The idealized kernel's run, with its two results named: every final state holds, in the two result arrays, what the second
   region's pipeline has written back, and holds the eleven arguments as launched. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the end of the run the first result array holds what the heads' pipeline wrote through its window 5. -/
theorem end_res0 (c : Dev nD) : W12 m ρ c (Proc.devRef .tc main_v16_0) = (dat1 (V11 m ρ) c).arrAt 5 cfg1.N :=
  W12_arr m ρ c 5

/-- At the end of the run the second result array holds what the heads' pipeline wrote through its window 6. -/
theorem end_res1 (c : Dev nD) : W12 m ρ c (Proc.devRef .tc main_v16_1) = (dat1 (V11 m ρ) c).arrAt 6 cfg1.N :=
  W12_arr m ρ c 6

set_option backward.isDefEq.respectTransparency.types false in
/-- Every weakly fair run of the idealized kernel, from any memory with zero counters, ends with the two result arrays at
    what the second region's pipeline has written back by its last point and with every argument as launched. -/
theorem run : θ_run defs (onTc (τ := τ) (main (F := F))) ⟨m, fun _ => 0, ρ⟩ (fun r => ∀ c : Dev nD,
      r.2.mem ((c.tc : Thread nD τ).loc main_v16_0) = (dat1 (V11 m ρ) c).arrAt 5 cfg1.N
      ∧ r.2.mem ((c.tc : Thread nD τ).loc main_v16_1) = (dat1 (V11 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨(h c _ (mem_uc main_v16_0 (by decide))).trans (end_res0 m ρ c),
       (h c _ (mem_uc main_v16_1 (by decide))).trans (end_res1 m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Run

end
-- ==== Proof.TopTwo.lean ====
/- Ranking finitely many values: what a stable sort, greatest first, puts at the front, and what the maximum and the first
   position reaching it give. Nothing here is about a program. -/
module

public import Idealize.ShloMosaic.PureOps.Ideal
public import Idealize.ShloMosaic.Lib.SortFacts
public import Idealize.ShloMosaic.Lib.Pointwise

@[expose] public section

set_option maxRecDepth 16384

noncomputable section

namespace Cert.TopTwo

open Idealize.ShloMosaic

section Ranking
variable {α : Type} [LinearOrder α] {n : ℕ} (p : Fin n → α)

/-- Position `a` ranks ahead of position `b`: its value is greater, or the values are equal and `a` is the lower position. -/
def Ahead (a b : Fin n) : Prop := p b < p a ∨ (p b = p a ∧ a < b)

/-- What ranks behind is not greater. -/
theorem Ahead.le {p : Fin n → α} {a b : Fin n} (h : Ahead p a b) : p b ≤ p a := by
  rcases h with h | ⟨h, _⟩
  · exact h.le
  · exact h.le

/-- A position that ranks behind `a` and is lower than `a` holds a strictly smaller value. -/
theorem Ahead.lt_of_lt {p : Fin n → α} {a b : Fin n} (h : Ahead p a b) (hb : b < a) : p b < p a := by
  rcases h with h | ⟨_, h⟩
  · exact h
  · exact absurd h (not_lt.mpr hb.le)

/-- The sort's question between two positions: does the first hold the greater value? -/
def greater (x y : Fin n) : Bool := decide (p y < p x)

/-- Inserting a position lower than all of a ranked list leaves the list ranked. -/
theorem ranked_insert (a : Fin n) (l : List (Fin n)) (hl : l.Pairwise (Ahead p)) (ha : ∀ b ∈ l, a < b) :
    (insertBefore (greater p) a l).Pairwise (Ahead p) := by
  induction l with
  | nil => exact List.pairwise_singleton _ _
  | cons b l ih =>
    rw [List.pairwise_cons] at hl
    unfold insertBefore
    by_cases hab : p a < p b
    · rw [if_pos (by simpa [greater] using hab)]
      refine List.pairwise_cons.mpr ⟨fun c hc => ?_, ih hl.2 fun c hc => ha c (List.mem_cons_of_mem b hc)⟩
      rcases List.mem_cons.mp ((perm_insertBefore (greater p) a l).mem_iff.mp hc) with rfl | hc'
      · exact .inl hab
      · exact hl.1 c hc'
    · rw [if_neg (by simpa [greater] using hab)]
      have hba : p b ≤ p a := not_lt.mp hab
      refine List.pairwise_cons.mpr ⟨fun c hc => ?_, List.pairwise_cons.mpr hl⟩
      have hca : p c ≤ p a := by
        rcases List.mem_cons.mp hc with rfl | hc'
        · exact hba
        · exact (hl.1 c hc').le.trans hba
      rcases hca.lt_or_eq with h | h
      · exact .inl h
      · exact .inr ⟨h, ha c hc⟩

/-- The stable sort of an increasing list of positions is ranked. -/
theorem ranked_sort (l : List (Fin n)) (hl : l.Pairwise (· < ·)) : (stableSort (greater p) l).Pairwise (Ahead p) := by
  induction l with
  | nil => exact List.Pairwise.nil
  | cons a l ih =>
    rw [List.pairwise_cons] at hl
    unfold stableSort
    exact ranked_insert p a _ (ih hl.2) fun b hb => hl.1 b ((perm_stableSort (greater p) l).mem_iff.mp hb)

/-- The position the sort puts at place `k`. -/
def rank (k : Fin n) : Fin n := sortedFrom (greater p) k

/-- An earlier place's position ranks ahead of a later place's. -/
theorem rank_ahead (i j : Fin n) (h : i < j) : Ahead p (rank p i) (rank p j) := by
  have hp := List.pairwise_iff_get.mp (ranked_sort p (List.finRange n) (List.pairwise_lt_finRange n))
  exact hp (i.cast (length_sortPositions n (greater p)).symm) (j.cast (length_sortPositions n (greater p)).symm) h

/-- Distinct places hold distinct positions. -/
theorem rank_ne (i j : Fin n) (h : i ≠ j) : rank p i ≠ rank p j := fun e => h (sortedFrom_injective (greater p) e)

/-- Whatever is not at an earlier place than `i`, nor at `i`, ranks behind place `i`. -/
theorem rank_ahead_of (i x : Fin n) (h : ∀ k, k ≤ i → rank p k ≠ x) : Ahead p (rank p i) x := by
  obtain ⟨k, hk⟩ := sortedFrom_surjective (greater p) x
  have hik : i < k := not_le.mp fun hle => h k hle hk
  have := rank_ahead p i k hik
  rwa [show rank p k = x from hk] at this

end Ranking

/-- The maximum, from −∞, of values bounded by one of them is that one. -/
theorem foldMax_eq {n : ℕ} (f : Fin n → EReal) (i : Fin n) (h : ∀ j, f j ≤ f i) :
    Finset.univ.fold max (⊥ : EReal) f = f i :=
  le_antisymm (Finset.fold_max_le _ |>.mpr ⟨bot_le, fun j _ => h j⟩)
    (Finset.le_fold_max _ |>.mpr (.inr ⟨i, Finset.mem_univ _, le_rfl⟩))

/-- The lane numbers of 128 lanes as 32-bit words. -/
def lane (x : Fin 128) : BitVec 32 := BitVec.ofNat 32 x.val

/-- Lane numbers are told apart by their words. -/
theorem lane_inj {x y : Fin 128} (h : lane x = lane y) : x = y := by
  have := congrArg BitVec.toNat h
  simp only [lane, BitVec.toNat_ofNat] at this
  have hx := x.isLt; have hy := y.isLt
  exact Fin.ext (by omega)

/-- A lane's word, read signed, is the lane number. -/
theorem lane_toInt (x : Fin 128) : (lane x).toInt = (x.val : ℤ) := by
  have hx := x.isLt
  rw [lane, BitVec.toInt_eq_toNat_cond, BitVec.toNat_ofNat]
  have h : x.val % 2 ^ 32 = x.val := by omega
  rw [h, if_pos (by omega)]

/-- The lanes at which `P` holds, by the least of their words (128 where it fails). -/
def firstLane (P : Fin 128 → BitVec 1) : BitVec 32 :=
  Finset.univ.fold IntOp.minsi (2147483647#32) (fun x => Scalar.select (P x) (BitVec.ofNat 32 x.val) 128#32)

/-- The signed minimum of two words, read as integers. -/
theorem toInt_min (a b : BitVec 32) : (IntOp.minsi a b).toInt = min a.toInt b.toInt := by
  unfold IntOp.minsi
  rw [BitVec.slt]
  by_cases h : a.toInt < b.toInt
  · simp [h, min_eq_left h.le]
  · simp [h, min_eq_right (not_lt.mp h)]

/-- Where `P` holds at `i` and at no lower lane, the least word is lane `i`'s. -/
theorem firstLane_eq (P : Fin 128 → BitVec 1) (i : Fin 128) (hi : P i = 1#1) (hlt : ∀ j < i, P j ≠ 1#1) :
    firstLane P = lane i := by
  apply BitVec.eq_of_toInt_eq
  have hfold : (firstLane P).toInt
      = Finset.univ.fold min ((2147483647#32 : BitVec 32).toInt)
          (fun x => (Scalar.select (P x) (BitVec.ofNat 32 x.val) 128#32).toInt) :=
    (Finset.fold_hom (op := IntOp.minsi) (op' := min) (fun a b => toInt_min a b)).symm
  rw [hfold, lane_toInt]
  apply le_antisymm
  · refine (Finset.fold_min_le _).mpr (.inr ⟨i, Finset.mem_univ _, ?_⟩)
    rw [hi]
    exact (lane_toInt i).le
  · refine (Finset.le_fold_min _).mpr ⟨?_, fun x _ => ?_⟩
    · have := i.isLt
      have h : (2147483647#32 : BitVec 32).toInt = 2147483647 := by decide
      omega
    · by_cases hx : P x = 1#1
      · rw [hx]
        refine le_of_le_of_eq ?_ (lane_toInt x).symm
        have : ¬ x < i := fun h => hlt x h hx
        exact_mod_cast not_lt.mp this
      · have hx0 : P x = 0#1 := by
          rcases BitVec.eq_zero_or_eq_one (P x) with h | h
          · exact h
          · exact absurd h hx
        rw [hx0]
        have := i.isLt
        have h : (Scalar.select (0#1) (BitVec.ofNat 32 x.val) (128#32 : BitVec 32)).toInt = 128 := by
          show (128#32 : BitVec 32).toInt = 128
          decide
        omega

end Cert.TopTwo

end
-- ==== Proof.Gate.lean ====
/- The gate of one row of the mixture, over the extended reals: the softmax of eight logits, its two greatest entries rescaled to
   sum to one, and the proof that the same computed over 128 lanes, of which the last 120 are masked, gives the same weights. -/
module

public import proofs.«01_k».proof.Proof.TopTwo

@[expose] public section

set_option maxRecDepth 16384

noncomputable section

namespace Cert.Gate

open Idealize.ShloMosaic Cert.TopTwo

/-! ## The gate on eight experts -/

/-- The greatest of the eight logits. -/
def rowMax (L : Fin 8 → EReal) : EReal := Finset.univ.fold max ⊥ L

/-- A logit's exponential, the row's maximum taken off. -/
def ex (L : Fin 8 → EReal) (j : Fin 8) : EReal := Ideal.exp (L j - rowMax L)

/-- The sum of the eight exponentials. -/
def tot (L : Fin 8 → EReal) : EReal := ∑ j, ex L j

/-- The softmax. -/
def prob (L : Fin 8 → EReal) (j : Fin 8) : EReal := Ideal.div (ex L j) (tot L)

/-- The two experts of greatest probability, the greater first, a tie going to the lower expert. -/
def best (L : Fin 8 → EReal) (k : Fin 2) : Fin 8 := rank (prob L) ⟨k.val, by omega⟩

/-- The two greatest probabilities' sum. -/
def denom (L : Fin 8 → EReal) : EReal := prob L (best L 0) + prob L (best L 1)

/-- The weight of expert `j`: its rescaled probability if it is one of the two best, else zero. -/
def weight (L : Fin 8 → EReal) (j : Fin 8) : EReal :=
  (if j = best L 0 then Ideal.div (prob L (best L 0)) (denom L) else 0)
    + (if j = best L 1 then Ideal.div (prob L (best L 1)) (denom L) else 0)

/-- An exponential is not negative. -/
theorem exp_nonneg (x : EReal) : 0 ≤ Ideal.exp x := by
  induction x with
  | bot => exact le_rfl
  | top => exact le_top
  | coe r => exact EReal.coe_nonneg.mpr (Real.exp_pos r).le

/-- The quotient by zero of zero. -/
theorem zero_div_zero : Ideal.div 0 0 = ⊥ := by simp [Ideal.div]

/-- Dividing by −∞ gives zero. -/
theorem div_bot (x : EReal) : Ideal.div x ⊥ = 0 := by simp [Ideal.div]

/-- Dividing by anything but zero is multiplying by the inverse. -/
theorem div_of_ne (x : EReal) {y : EReal} (h : y ≠ 0) : Ideal.div x y = x * y⁻¹ := by simp [Ideal.div, h]

/-- Nor is their sum. -/
theorem tot_nonneg (L : Fin 8 → EReal) : 0 ≤ tot L := Finset.sum_nonneg fun _ _ => exp_nonneg _

/-- If the exponentials sum to zero, each is zero. -/
theorem ex_zero (L : Fin 8 → EReal) (h : tot L = 0) (j : Fin 8) : ex L j = 0 :=
  (Finset.sum_eq_zero_iff_of_nonneg fun _ _ => exp_nonneg _).mp h j (Finset.mem_univ j)

/-- If the exponentials sum to zero, every probability is the value of 0/0. -/
theorem prob_of_tot_zero (L : Fin 8 → EReal) (h : tot L = 0) (j : Fin 8) : prob L j = ⊥ := by
  rw [prob, h, ex_zero L h j, zero_div_zero]

/-- If not, every probability is at least zero. -/
theorem prob_nonneg (L : Fin 8 → EReal) (h : tot L ≠ 0) (j : Fin 8) : 0 ≤ prob L j := by
  rw [prob, div_of_ne _ h]
  exact mul_nonneg (exp_nonneg _) (EReal.inv_nonneg_of_nonneg (tot_nonneg L))

/-! ## The same on 128 lanes -/

/-- Whether a lane is an expert's. -/
def isExpert (l : Fin 128) : BitVec 1 := IntOp.cmpi .slt (BitVec.ofNat 32 l.val) 8#32

/-- The masked logits: −∞ on the lanes that are no expert's. -/
def laneLogit (X : Fin 128 → EReal) (l : Fin 128) : EReal :=
  Scalar.select (isExpert l) (X l) (Ideal.ofBits .f32 0xFF800000#32)

/-- The masked exponentials: zero on the lanes that are no expert's. -/
def laneEx (X : Fin 128 → EReal) (l : Fin 128) : EReal :=
  Scalar.select (isExpert l)
    (Ideal.exp (laneLogit X l - Finset.univ.fold max (Ideal.ofBits .f32 0xFF800000#32) (laneLogit X))) 0

/-- The softmax on the lanes. -/
def laneProb (X : Fin 128 → EReal) (l : Fin 128) : EReal := Ideal.div (laneEx X l) (∑ x, laneEx X x)

/-- The greatest of the lanes' values. -/
def laneMax (q : Fin 128 → EReal) : EReal := Finset.univ.fold max (Ideal.ofBits .f32 0xFF800000#32) q

/-- Whether a lane is an expert's and holds the lanes' greatest value. -/
def laneHit (q : Fin 128 → EReal) (l : Fin 128) : BitVec 1 :=
  IntOp.andi (BitVec.ofBool (decide (q l = laneMax q))) (isExpert l)

/-- The first expert lane holding the greatest value. -/
def laneArg (q : Fin 128 → EReal) : BitVec 32 := firstLane (laneHit q)

/-- The lanes with their best one overwritten by −1. -/
def laneRest (q : Fin 128 → EReal) (l : Fin 128) : EReal :=
  Scalar.select (IntOp.cmpi .eq (BitVec.ofNat 32 l.val) (laneArg q)) (Ideal.ofBits .f32 0xBF800000#32) (q l)

/-- The weights on the lanes. -/
def laneWeight (q : Fin 128 → EReal) (l : Fin 128) : EReal :=
  Scalar.select (IntOp.cmpi .eq (BitVec.ofNat 32 l.val) (laneArg q))
      (Ideal.div (laneMax q) (laneMax q + laneMax (laneRest q))) 0
    + Scalar.select (IntOp.cmpi .eq (BitVec.ofNat 32 l.val) (laneArg (laneRest q)))
      (Ideal.div (laneMax (laneRest q)) (laneMax q + laneMax (laneRest q))) 0

/-- The pattern of −∞. -/
theorem bits_negInf : Ideal.ofBits .f32 0xFF800000#32 = ⊥ := by
  simp [Ideal.ofBits, Ideal.ieee]

/-- The pattern of −1. -/
theorem bits_negOne : Ideal.ofBits .f32 0xBF800000#32 = -1 := by
  simp [Ideal.ofBits, Ideal.ieee, -EReal.coe_mul]
  norm_num

/-- A lane is an expert's exactly when its number is below eight. -/
theorem isExpert_eq (l : Fin 128) : isExpert l = if l.val < 8 then 1#1 else 0#1 := by
  revert l; decide +kernel

/-- A selection by equality of lane words is one by equality of lanes. -/
theorem select_lane {α : Type} (l i : Fin 128) (a b : α) :
    Scalar.select (IntOp.cmpi .eq (BitVec.ofNat 32 l.val) (lane i)) a b = if l = i then a else b := by
  by_cases h : l = i
  · subst h; simp [IntOp.cmpi, lane, Scalar.select]
  · have : ¬ (BitVec.ofNat 32 l.val = lane i) := fun e => h (lane_inj e)
    have hb : (BitVec.ofNat 32 l.val == lane i) = false := by simpa using this
    simp [IntOp.cmpi, Scalar.select, hb, h]

/-- Expert `j`'s lane. -/
def up (j : Fin 8) : Fin 128 := ⟨j.val, by omega⟩

/-- Distinct experts sit on distinct lanes. -/
theorem up_inj {i j : Fin 8} (h : up i = up j) : i = j := by
  have := congrArg Fin.val h
  exact Fin.ext this

/-- A sum over the lanes that vanishes off the experts' is the sum over the experts. -/
theorem sum_lanes (f : Fin 128 → EReal) (h : ∀ l : Fin 128, 8 ≤ l.val → f l = 0) : ∑ l, f l = ∑ j, f (up j) := by
  rw [← Finset.sum_subset (Finset.subset_univ (Finset.univ.map ⟨up, fun _ _ => up_inj⟩)), Finset.sum_map]
  · rfl
  · intro l _ hl
    refine h l (not_lt.mp fun hlt => hl ?_)
    exact Finset.mem_map.mpr ⟨⟨l.val, hlt⟩, Finset.mem_univ _, rfl⟩

/-- A maximum over the lanes that is −∞ off the experts' is the maximum over the experts. -/
theorem max_lanes (f : Fin 128 → EReal) (h : ∀ l : Fin 128, 8 ≤ l.val → f l = ⊥) :
    Finset.univ.fold max (⊥ : EReal) f = Finset.univ.fold max ⊥ fun j => f (up j) := by
  apply le_antisymm
  · refine (Finset.fold_max_le _).mpr ⟨bot_le, fun l _ => ?_⟩
    by_cases hl : l.val < 8
    · exact (Finset.le_fold_max _).mpr (.inr ⟨⟨l.val, hl⟩, Finset.mem_univ _, le_rfl⟩)
    · rw [h l (not_lt.mp hl)]; exact bot_le
  · exact (Finset.fold_max_le _).mpr ⟨bot_le, fun j _ => (Finset.le_fold_max _).mpr (.inr ⟨up j, Finset.mem_univ _, le_rfl⟩)⟩

section Lanes
variable (X : Fin 128 → EReal)

/-- The experts' logits among the lanes'. -/
abbrev expertLogits : Fin 8 → EReal := fun j => X (up j)

/-- An expert's lane keeps its logit. -/
theorem laneLogit_up (j : Fin 8) : laneLogit X (up j) = X (up j) := by
  rw [laneLogit, isExpert_eq, if_pos (show (up j).val < 8 from j.isLt)]; rfl

/-- A lane that is no expert's holds minus infinity. -/
theorem laneLogit_off (l : Fin 128) (h : 8 ≤ l.val) : laneLogit X l = ⊥ := by
  rw [laneLogit, isExpert_eq, if_neg (not_lt.mpr h), bits_negInf]; rfl

/-- An expert's lane holds its exponential. -/
theorem laneEx_up (j : Fin 8) : laneEx X (up j) = ex (expertLogits X) j := by
  rw [laneEx, isExpert_eq, if_pos (show (up j).val < 8 from j.isLt), bits_negInf, max_lanes _ (laneLogit_off X), laneLogit_up]
  simp only [laneLogit_up]
  rfl

/-- A lane that is no expert's holds zero. -/
theorem laneEx_off (l : Fin 128) (h : 8 ≤ l.val) : laneEx X l = 0 := by
  rw [laneEx, isExpert_eq, if_neg (not_lt.mpr h)]; rfl

/-- The lanes' exponentials sum to the experts'. -/
theorem sum_laneEx : ∑ x, laneEx X x = tot (expertLogits X) := by
  rw [sum_lanes _ (laneEx_off X)]
  exact Finset.sum_congr rfl fun j _ => laneEx_up X j

/-- On an expert's lane stands the expert's probability. -/
theorem laneProb_up (j : Fin 8) : laneProb X (up j) = prob (expertLogits X) j := by
  rw [laneProb, sum_laneEx, laneEx_up, prob]

/-- On any other lane stands zero over the sum. -/
theorem laneProb_off (l : Fin 128) (h : 8 ≤ l.val) : laneProb X l = Ideal.div 0 (tot (expertLogits X)) := by
  rw [laneProb, sum_laneEx, laneEx_off X l h]

end Lanes

/-- A lane below eight is an expert's. -/
theorem eq_up (l : Fin 128) (h : l.val < 8) : l = up ⟨l.val, h⟩ := rfl

/-- The greatest value stands on expert `i`'s lane, and on no lower lane: then the first expert lane holding it is `i`'s. -/
theorem laneArg_eq (q : Fin 128 → EReal) (i : Fin 8) (hmax : laneMax q = q (up i)) (hlt : ∀ j < i, q (up j) < q (up i)) :
    laneArg q = lane (up i) := by
  refine firstLane_eq _ _ ?_ fun l hl => ?_
  · rw [laneHit, hmax, isExpert_eq, if_pos (show (up i).val < 8 from i.isLt)]
    simp [IntOp.andi]
  · have h8 : l.val < 8 := lt_trans hl i.isLt
    have hne : q l ≠ laneMax q := by
      rw [hmax, eq_up l h8]
      exact (hlt ⟨l.val, h8⟩ hl).ne
    rw [laneHit]
    simp [IntOp.andi, hne]

/-- THE GATE ON THE LANES: the lanes' weights are the experts' weights, and zero off the experts' lanes. -/
theorem laneWeight_eq (X : Fin 128 → EReal) (l : Fin 128) :
    laneWeight (laneProb X) l = if h : l.val < 8 then weight (expertLogits X) ⟨l.val, h⟩ else 0 := by
  set L := expertLogits X with hL
  by_cases h0 : tot L = 0
  · -- every lane holds −∞; both quotients are by −∞
    have hq : ∀ l, laneProb X l = ⊥ := fun l => by
      by_cases h : l.val < 8
      · rw [eq_up l h, laneProb_up, prob_of_tot_zero _ h0]
      · rw [laneProb_off X l (not_lt.mp h), ← hL, h0, zero_div_zero]
    have hm : laneMax (laneProb X) = ⊥ := by
      rw [laneMax, bits_negInf, foldMax_eq _ 0 fun j => by rw [hq, hq], hq]
    have hd : denom L = ⊥ := by rw [denom, prob_of_tot_zero L h0]; simp
    simp only [laneWeight, weight, hm, hd, EReal.bot_add, div_bot]
    have hs : ∀ b : BitVec 1, Scalar.select b (0 : EReal) 0 = 0 := fun b => by unfold Scalar.select; split <;> rfl
    simp [hs]
  · -- regular: the probabilities are at least zero
    have hoff : ∀ l : Fin 128, 8 ≤ l.val → laneProb X l = 0 := fun l h => by
      rw [laneProb_off X l h, ← hL, div_of_ne _ h0, zero_mul]
    set i0 := best L 0 with hi0
    set i1 := best L 1 with hi1
    have hne : i1 ≠ i0 := rank_ne _ _ _ (by decide)
    have hA0 : ∀ j, j ≠ i0 → Ahead (prob L) i0 j := fun j hj => by
      refine rank_ahead_of (prob L) ⟨0, by omega⟩ j fun k hk => ?_
      have : k = ⟨0, by omega⟩ := Fin.ext (by have := Fin.le_def.mp hk; simpa using this)
      rw [this]; exact fun e => hj e.symm
    have hA1 : ∀ j, j ≠ i0 → j ≠ i1 → Ahead (prob L) i1 j := fun j hj hj' => by
      refine rank_ahead_of (prob L) ⟨1, by omega⟩ j fun k hk => ?_
      have hk1 : k.val ≤ 1 := Fin.le_def.mp hk
      rcases Nat.le_one_iff_eq_zero_or_eq_one.mp hk1 with h | h
      · have : k = ⟨0, by omega⟩ := Fin.ext h
        rw [this]; exact fun e => hj e.symm
      · have : k = ⟨1, by omega⟩ := Fin.ext h
        rw [this]; exact fun e => hj' e.symm
    have hle0 : ∀ j, prob L j ≤ prob L i0 := fun j => by
      by_cases h : j = i0
      · rw [h]
      · exact (hA0 j h).le
    -- the best lane
    have hm1 : laneMax (laneProb X) = prob L i0 := by
      rw [laneMax, bits_negInf, foldMax_eq _ (up i0), laneProb_up]
      intro l
      rw [laneProb_up]
      by_cases h : l.val < 8
      · rw [eq_up l h, laneProb_up]; exact hle0 _
      · rw [hoff l (not_lt.mp h)]; exact prob_nonneg L h0 i0
    have ha1 : laneArg (laneProb X) = lane (up i0) := by
      refine laneArg_eq _ _ (by rw [hm1, laneProb_up]) fun j hj => ?_
      rw [laneProb_up, laneProb_up]
      exact (hA0 j hj.ne).lt_of_lt hj
    -- the lanes without it
    have hr : ∀ l, laneRest (laneProb X) l = if l = up i0 then -1 else laneProb X l := fun l => by
      rw [laneRest, ha1, select_lane, bits_negOne]
    have hr_up : ∀ j, j ≠ i0 → laneRest (laneProb X) (up j) = prob L j := fun j hj => by
      rw [hr, if_neg (fun e => hj (up_inj e)), laneProb_up]
    have hneg : ∀ j, (-1 : EReal) < prob L j := fun j => lt_of_lt_of_le (by
      have : ((-1 : ℝ) : EReal) < ((0 : ℝ) : EReal) := EReal.coe_lt_coe_iff.mpr (by norm_num)
      simpa using this) (prob_nonneg L h0 j)
    have hm2 : laneMax (laneRest (laneProb X)) = prob L i1 := by
      rw [laneMax, bits_negInf, foldMax_eq _ (up i1), hr_up _ hne]
      intro l
      rw [hr_up _ hne]
      by_cases h : l.val < 8
      · rw [eq_up l h]
        by_cases hl0 : (⟨l.val, h⟩ : Fin 8) = i0
        · rw [hr, if_pos (by rw [hl0])]; exact (hneg _).le
        · rw [hr_up _ hl0]
          by_cases hl1 : (⟨l.val, h⟩ : Fin 8) = i1
          · rw [hl1]
          · exact (hA1 _ hl0 hl1).le
      · rw [hr, if_neg (fun e => h (by rw [e]; exact i0.isLt)), hoff l (not_lt.mp h)]
        exact prob_nonneg L h0 i1
    have ha2 : laneArg (laneRest (laneProb X)) = lane (up i1) := by
      refine laneArg_eq _ _ (by rw [hm2, hr_up _ hne]) fun j hj => ?_
      rw [hr_up _ hne]
      by_cases hj0 : j = i0
      · rw [hj0, hr, if_pos rfl]; exact hneg _
      · rw [hr_up _ hj0]; exact (hA1 j hj0 hj.ne).lt_of_lt hj
    rw [laneWeight, ha1, ha2, hm1, hm2, select_lane, select_lane]
    by_cases h : l.val < 8
    · rw [dif_pos h, weight]
      have e : ∀ i, (l = up i) ↔ ((⟨l.val, h⟩ : Fin 8) = i) := fun i =>
        ⟨fun e => up_inj ((eq_up l h).symm.trans e), fun e => by rw [← e]; rfl⟩
      simp only [e, denom, ← hi0, ← hi1]
    · rw [dif_neg h, if_neg (fun e => h (by rw [e]; exact i0.isLt)), if_neg (fun e => h (by rw [e]; exact i1.isLt)), add_zero]

end Cert.Gate

end
-- ==== Proof.Spec.lean ====
/- What the layer computes, entry by entry, as formulas over the extended reals: the gate's weights of the eight experts for each of
   the 4096 rows, the weighted sum of the experts' two-layer networks, and the two linear heads on it. -/
module

public import proofs.«01_k».proof.Proof.Gate

@[expose] public section

set_option maxRecDepth 16384

noncomputable section

namespace Cert.Spec

open Idealize.ShloMosaic

/-- An array of extended reals of the given sizes. -/
abbrev Arr (n : ℕ) (size : Fin n → ℕ) : Type := (⟨n, size⟩ : Shape).Idx → EReal

section
variable (x : Arr 2 ![4096, 2048]) (wg : Arr 2 ![8, 2048]) (bg : Arr 1 ![8]) (w1 : Arr 3 ![8, 256, 2048])
  (b1 : Arr 2 ![8, 256]) (w2 : Arr 3 ![8, 2048, 256]) (b2 : Arr 2 ![8, 2048])

/-- Row `n`'s logit for expert `e`. -/
def logit (n : Fin 4096) (e : Fin 8) : EReal := ∑ k : Fin 2048, x (ix2 n k) * wg (ix2 e k) + bg (ix1 e)

/-- Row `n`'s weight for expert `e`. -/
def share (n : Fin 4096) (e : Fin 8) : EReal := Gate.weight (logit x wg bg n) e

/-- Row `n`'s hidden unit `h` of expert `e`: a linear form, cut off below at zero. -/
def hidden (n : Fin 4096) (e : Fin 8) (h : Fin 256) : EReal :=
  max (∑ k : Fin 2048, x (ix2 n k) * w1 (ix3 e h k) + b1 (ix2 e h)) 0

/-- Entry `d` of row `n`'s mixture: the experts' outputs summed under the row's weights, the bias weighted alike. -/
def mixture (n : Fin 4096) (d : Fin 2048) : EReal :=
  (∑ e : Fin 8, ∑ h : Fin 256, hidden x w1 b1 n e h * share x wg bg n e * w2 (ix3 e d h))
    + ∑ e : Fin 8, share x wg bg n e * b2 (ix2 e d)

/-- Entry `o` of row `n` of a linear head on the mixture. -/
def head (wh : Arr 2 ![2048, 2048]) (bh : Arr 1 ![2048]) (n : Fin 4096) (o : Fin 2048) : EReal :=
  ∑ d : Fin 2048, mixture x wg bg w1 b1 w2 b2 n d * wh (ix2 o d) + bh (ix1 o)

end

end Cert.Spec

end
-- ==== Proof.MoeBlock.lean ====
/- What one block of the mixture's call computes, and what one block of the heads' call computes, read at an entry. -/
module

public import proofs.«01_k».proof.Proof.Spec
public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Block

open Idealize.ShloMosaic Cert.KernelIdeal Cert.KernelIdeal.Gen Cert.Gate Cert.TopTwo

section Gate
variable (x : Vec Ideal S512x2048 .f32) (wg : Vec Ideal S128x2048 .f32) (bg : Vec Ideal S1x128 .f32)

/-- Row `r`'s logit on lane `l`. -/
def logit (r : Fin 512) (l : Fin 128) : EReal := ∑ k : Fin 2048, x (ix2 r k) * wg (ix2 l k) + bg (ix2 0 l)

/-- The softmax block holds the lanes' softmax of each row. -/
theorem prob_at (r : Fin 512) (l : Fin 128) : k0_pay2 x wg bg (ix2 r l) = laneProb (logit x wg bg r) l := by
  pointwise [k0_pay2, k0_pay1]
  rfl

/-- The first maximum. -/
theorem max1_at (r : Fin 512) : k0_pay3 x wg bg (ix2 r 0) = laneMax (laneProb (logit x wg bg r)) := by
  pointwise [k0_pay3]
  simp only [prob_at]
  rfl

/-- The lane of the first maximum. -/
theorem arg1_at (r : Fin 512) : k0_pay4 x wg bg (ix2 r 0) = laneArg (laneProb (logit x wg bg r)) := by
  pointwise [k0_pay4, k0_pay1]
  simp only [prob_at, max1_at]
  rfl

/-- The lanes with the first maximum overwritten. -/
theorem rest_at (r : Fin 512) (l : Fin 128) : k0_pay5 x wg bg (ix2 r l) = laneRest (laneProb (logit x wg bg r)) l := by
  pointwise [k0_pay5]
  simp only [prob_at, arg1_at]
  rfl

/-- The second maximum. -/
theorem max2_at (r : Fin 512) : k0_pay6 x wg bg (ix2 r 0) = laneMax (laneRest (laneProb (logit x wg bg r))) := by
  pointwise [k0_pay6]
  simp only [rest_at]
  rfl

/-- The lanes at which the second maximum stands. -/
theorem hit2_at (r : Fin 512) (l : Fin 128) : k0_pay7 x wg bg (ix2 r l) = laneHit (laneRest (laneProb (logit x wg bg r))) l := by
  pointwise [k0_pay7, k0_pay1]
  simp only [rest_at, max2_at]
  rfl

end Gate

section Mix
variable (x : Vec Ideal S512x2048 .f32) (wg : Vec Ideal S128x2048 .f32) (bg : Vec Ideal S1x128 .f32)
  (w1 : Vec Ideal S2048x2048 .f32) (b1 : Vec Ideal S1x2048 .f32) (w2 : Vec Ideal S2048x2048 .f32) (b2 : Vec Ideal S128x2048 .f32)
  (ex : Vec Ideal S128x2048 .f32)

/-- Row `r`'s weight on lane `l`. -/
def weight (r : Fin 512) (l : Fin 128) : EReal := laneWeight (laneProb (logit x wg bg r)) l

/-- THE MIXTURE'S BLOCK at an entry: over the 2048 hidden units, the unit times its lane's weight times the second layer's
    coefficient, and over the 128 lanes the weight times the bias. -/
theorem mix_at (r : Fin 512) (d : Fin 2048) :
    k0_pay8 x (iota .tc S512x128 32 [1] iota_S512x128_d1_w32) (k0_pay3 x wg bg) (k0_pay4 x wg bg) (k0_pay6 x wg bg) (k0_pay7 x wg bg) w1 b1 ex w2 b2 (ix2 r d)
      = (∑ j : Fin 2048, max (∑ k : Fin 2048, x (ix2 r k) * w1 (ix2 j k) + b1 (ix2 0 j)) 0
            * (∑ l : Fin 128, weight x wg bg r l * ex (ix2 l j)) * w2 (ix2 j d))
        + ∑ l : Fin 128, weight x wg bg r l * b2 (ix2 l d) := by
  pointwise [k0_pay8]
  simp only [max1_at, max2_at, arg1_at, hit2_at]
  rfl

end Mix

section Head
variable (y : Vec Ideal S512x2048 .f32) (w : Vec Ideal S2048x2048 .f32) (b : Vec Ideal S1x2048 .f32)

/-- The first head's block at an entry. -/
theorem head0_at (r : Fin 512) (o : Fin 2048) :
    k1_pay2 y w b (ix2 r o) = ∑ d : Fin 2048, y (ix2 r d) * w (ix2 o d) + b (ix2 0 o) := by
  pointwise [k1_pay2, k1_pay1]

/-- The second head's block at an entry. -/
theorem head1_at (r : Fin 512) (o : Fin 2048) :
    k1_pay3 y w b (ix2 r o) = ∑ d : Fin 2048, y (ix2 r d) * w (ix2 o d) + b (ix2 0 o) := by
  pointwise [k1_pay3, k1_pay1]

end Head

end Cert.KernelIdeal.Block

end
-- ==== Proof.Entry.lean ====
/- What the two calls find in their operand arrays when they start: the host's paddings, reshapes and transpose of the arguments, and
   the table that sends each hidden unit to its expert. -/
module

public import proofs.«01_k».proof.Proof.Gate
public import proofs.«01_k».proof.Proof.Gen.KernelIdeal
public import proofs.«01_k».proof.Proof.Gen.KernelIdeal.Launch
public import proofs.«01_k».proof.Proof.Gen.KernelIdeal.Frame
public import Idealize.ShloMosaic.Lib.Pointwise
public import Idealize.ShloMosaic.Lib.StableHlo.Run

@[expose] public section

set_option maxRecDepth 16384

noncomputable section

namespace Cert.KernelIdeal.Entry

open Idealize.ShloMosaic Idealize.ShloMosaic.TcCoe Cert.KernelIdeal Cert.KernelIdeal.Gen Idealize.ShloMosaic.StableHlo

variable (m : (ℓ : Loc nD τ sig) → Buf (Elt Ideal) ℓ) (ρ : Dev nD → PrngReg) (c : Dev nD)

/-- Argument 1 on core `c`, as launched: the rows. -/
abbrev aX : FVec Ideal S4096x2048 .f32 := m ((c.tc : Thread nD τ).loc main_arg0)
/-- Argument 2 on core `c`, as launched: the gate's matrix. -/
abbrev aWg : FVec Ideal S8x2048 .f32 := m ((c.tc : Thread nD τ).loc main_arg1)
/-- Argument 3 on core `c`, as launched: the gate's bias. -/
abbrev aBg : FVec Ideal S8 .f32 := m ((c.tc : Thread nD τ).loc main_arg2)
/-- Argument 4 on core `c`, as launched: the experts' first layers. -/
abbrev aW1 : FVec Ideal S8x256x2048 .f32 := m ((c.tc : Thread nD τ).loc main_arg3)
/-- Argument 5 on core `c`, as launched: their biases. -/
abbrev aB1 : FVec Ideal S8x256 .f32 := m ((c.tc : Thread nD τ).loc main_arg4)
/-- Argument 6 on core `c`, as launched: the experts' second layers. -/
abbrev aW2 : FVec Ideal S8x2048x256 .f32 := m ((c.tc : Thread nD τ).loc main_arg5)
/-- Argument 7 on core `c`, as launched: their biases. -/
abbrev aB2 : FVec Ideal S8x2048 .f32 := m ((c.tc : Thread nD τ).loc main_arg6)
/-- Argument 8 on core `c`, as launched: the first head's matrix. -/
abbrev aWa : FVec Ideal S2048x2048 .f32 := m ((c.tc : Thread nD τ).loc main_arg7)
/-- Argument 9 on core `c`, as launched: its bias. -/
abbrev aBa : FVec Ideal S2048 .f32 := m ((c.tc : Thread nD τ).loc main_arg8)
/-- Argument 10 on core `c`, as launched: the second head's matrix. -/
abbrev aWb : FVec Ideal S2048x2048 .f32 := m ((c.tc : Thread nD τ).loc main_arg9)
/-- Argument 11 on core `c`, as launched: its bias. -/
abbrev aBb : FVec Ideal S2048 .f32 := m ((c.tc : Thread nD τ).loc main_arg10)

/-- The value the host pads with, the integer zero made a float. -/
abbrev fill : FVec Ideal S_ .f32 := sitofp .f32 (constantI S_ 32 0#32)

/-- The padded gate matrix. -/
theorem gate_arr : V9 m ρ c main_v0 = pad S128x2048 ![0, 0] ![120, 0] ![0, 0] (aWg m c) fill pads_S8x2048_S128x2048_01200_000 h_S_ := by
  refine (W9_of m ρ c main_v0 (by decide)).trans <| (W8_of m ρ c main_v0 (by decide)).trans <| (W7_of m ρ c main_v0 (by decide)).trans <| (W6_of m ρ c main_v0 (by decide)).trans <| (W5_of m ρ c main_v0 (by decide)).trans <| (W4_of m ρ c main_v0 (by decide)).trans <| (W3_of m ρ c main_v0 (by decide)).trans ?_
  simp only [W2, W1, hostOps0_1, hostOps0, TRef.binary, TRef.nullary, TRef.unary, TRef.ternary, TRef.toBuf, TRef.ofBuf, cast_eq]
  after_results_simp
  try rfl

/-- The padded gate bias, as a row. -/
theorem gateBias_arr : V9 m ρ c main_v2 = broadcastInDim S1x128 ![1] bcast_S128_S1x128_1 (pad S128 ![0] ![120] ![0] (aBg m c) fill pads_S8_S128_01200 h_S_) := by
  refine (W9_of m ρ c main_v2 (by decide)).trans <| (W8_of m ρ c main_v2 (by decide)).trans <| (W7_of m ρ c main_v2 (by decide)).trans <| (W6_of m ρ c main_v2 (by decide)).trans ?_
  simp only [W5, W4, W3, W2, W1, hostOps0_4, hostOps0_3, hostOps0_2, hostOps0_1, hostOps0, TRef.binary, TRef.nullary, TRef.unary, TRef.ternary, TRef.toBuf, TRef.ofBuf, cast_eq]
  after_results_simp
  try rfl

/-- The experts' first layers, one below the other. -/
theorem first_arr : V9 m ρ c main_v3 = shapeCast S2048x2048 (aW1 m c) shapeCasts_S8x256x2048_S2048x2048 := by
  refine (W9_of m ρ c main_v3 (by decide)).trans <| (W8_of m ρ c main_v3 (by decide)).trans <| (W7_of m ρ c main_v3 (by decide)).trans <| (W6_of m ρ c main_v3 (by decide)).trans ?_
  simp only [W5, W4, W3, W2, W1, hostOps0_4, hostOps0_3, hostOps0_2, hostOps0_1, hostOps0, TRef.binary, TRef.nullary, TRef.unary, TRef.ternary, TRef.toBuf, TRef.ofBuf, cast_eq]
  after_results_simp
  try rfl

/-- The first layers' biases, in a row. -/
theorem firstBias_arr : V9 m ρ c main_v4 = shapeCast S1x2048 (aB1 m c) shapeCasts_S8x256_S1x2048 := by
  refine (W9_of m ρ c main_v4 (by decide)).trans <| (W8_of m ρ c main_v4 (by decide)).trans <| (W7_of m ρ c main_v4 (by decide)).trans <| (W6_of m ρ c main_v4 (by decide)).trans ?_
  simp only [W5, W4, W3, W2, W1, hostOps0_4, hostOps0_3, hostOps0_2, hostOps0_1, hostOps0, TRef.binary, TRef.nullary, TRef.unary, TRef.ternary, TRef.toBuf, TRef.ofBuf, cast_eq]
  after_results_simp
  try rfl

/-- The experts' second layers, transposed, one below the other. -/
theorem second_arr : V9 m ρ c main_v6 = shapeCast S2048x2048 (transpose S8x256x2048 [0, 2, 1] (aW2 m c) transposes_S8x2048x256_S8x256x2048_0_2_1) shapeCasts_S8x256x2048_S2048x2048 := by
  refine (W9_of m ρ c main_v6 (by decide)).trans <| (W8_of m ρ c main_v6 (by decide)).trans <| (W7_of m ρ c main_v6 (by decide)).trans <| (W6_of m ρ c main_v6 (by decide)).trans ?_
  simp only [W5, W4, W3, W2, W1, hostOps0_4, hostOps0_3, hostOps0_2, hostOps0_1, hostOps0, TRef.binary, TRef.nullary, TRef.unary, TRef.ternary, TRef.toBuf, TRef.ofBuf, cast_eq]
  after_results_simp
  try rfl

/-- The padded biases of the second layers. -/
theorem secondBias_arr : V9 m ρ c main_v7 = pad S128x2048 ![0, 0] ![120, 0] ![0, 0] (aB2 m c) fill pads_S8x2048_S128x2048_01200_000 h_S_ := by
  refine (W9_of m ρ c main_v7 (by decide)).trans <| (W8_of m ρ c main_v7 (by decide)).trans <| (W7_of m ρ c main_v7 (by decide)).trans ?_
  simp only [W6, W5, W4, W3, W2, W1, hostOps0_5, hostOps0_4, hostOps0_3, hostOps0_2, hostOps0_1, hostOps0, TRef.binary, TRef.nullary, TRef.unary, TRef.ternary, TRef.toBuf, TRef.ofBuf, cast_eq]
  after_results_simp
  try rfl

/-- The unit's number along its row, divided by 256, as the host writes a floor division. -/
def unitExpert : IVec S128x2048 32 :=
  let u : IVec S128x2048 32 := iotaInDim S128x2048 32 1
  let d : IVec S_ 32 := constantI S_ 32 256#32
  let dd : IVec S128x2048 32 := broadcastInDim S128x2048 ![] bcast_S_S128x2048 d
  let q : IVec S128x2048 32 := Host.divsi u dd
  select (andi (cmpi .ne (signi u) (broadcastInDim S128x2048 ![] bcast_S_S128x2048 (signi d)))
      (cmpi .ne (Host.remsi u dd) (broadcastInDim S128x2048 ![] bcast_S_S128x2048 (constantI S_ 32 0#32))))
    (subi q (broadcastInDim S128x2048 ![] bcast_S_S128x2048 (constantI S_ 32 1#32))) q

/-- The table of units against experts: one where the unit is the expert's. -/
theorem table_arr : V9 m ρ c main_v12 = (uitofp .f32 (cmpi .eq unitExpert (iotaInDim S128x2048 32 0)) : FVec Ideal S128x2048 .f32) := by
  show W9 m ρ c (Proc.devRef .tc main_v12) = _
  simp only [W9, W8, W7, W6, W5, W4, W3, W2, W1, hostOps0_8, hostOps0_7, hostOps0_6, hostOps0_5, hostOps0_4, hostOps0_3, hostOps0_2, hostOps0_1, hostOps0, TRef.binary, TRef.nullary, TRef.unary, TRef.ternary, TRef.toBuf, TRef.ofBuf, cast_eq]
  after_results_simp
  try rfl

/-- The rows, as launched. -/
theorem rows_arr : V9 m ρ c main_arg0 = aX m c := W9_args m ρ c main_arg0 (by decide)

end Cert.KernelIdeal.Entry

end
-- ==== Proof.EntryAt.lean ====
/- What the mixture's call finds in its operand arrays, entry by entry, in the arguments. -/
module

public import proofs.«01_k».proof.Proof.Entry

@[expose] public section

set_option maxRecDepth 16384

noncomputable section

namespace Cert.KernelIdeal.Entry

open Idealize.ShloMosaic Idealize.ShloMosaic.TcCoe Cert.KernelIdeal Cert.KernelIdeal.Gen Cert.Gate

/-- The expert a hidden unit belongs to. -/
def unitE (j : Fin 2048) : Fin 8 := ⟨j.val / 256, by omega⟩
/-- A hidden unit's place within its expert. -/
def unitH (j : Fin 2048) : Fin 256 := ⟨j.val % 256, by omega⟩

section
variable (a : FVec Ideal S8x2048 .f32) (g : FVec Ideal S8 .f32) (p q : FVec Ideal S8x256x2048 .f32) (u : FVec Ideal S8x256 .f32) (w : FVec Ideal S8x2048x256 .f32)

/-- The padded matrix agrees with the matrix on the experts' rows. -/
theorem padMat_at (e : Fin 8) (k : Fin 2048) :
    pad S128x2048 ![0, 0] ![120, 0] ![0, 0] a fill pads_S8x2048_S128x2048_01200_000 h_S_ (ix2 (up e) k) = a (ix2 e k) := by
  pointwise [up]

/-- The padded bias agrees with the bias on the experts' lanes. -/
theorem padVec_at (e : Fin 8) :
    broadcastInDim S1x128 ![1] bcast_S128_S1x128_1 (pad S128 ![0] ![120] ![0] g fill pads_S8_S128_01200 h_S_) (ix2 0 (up e)) = g (ix1 e) := by
  pointwise [up]

/-- The layers one below the other: unit `j`'s row. -/
theorem stack_at (j k : Fin 2048) :
    shapeCast S2048x2048 p shapeCasts_S8x256x2048_S2048x2048 (ix2 j k) = p (ix3 (unitE j) (unitH j) k) := by
  pointwise [unitE, unitH]

/-- The biases in a row: unit `j`'s. -/
theorem stackBias_at (j : Fin 2048) :
    shapeCast S1x2048 u shapeCasts_S8x256_S1x2048 (ix2 0 j) = u (ix2 (unitE j) (unitH j)) := by
  pointwise [unitE, unitH]

/-- The transposed layers one below the other: unit `j`'s column. -/
theorem stackT_at (j d : Fin 2048) :
    shapeCast S2048x2048 (transpose S8x256x2048 [0, 2, 1] w transposes_S8x2048x256_S8x256x2048_0_2_1) shapeCasts_S8x256x2048_S2048x2048 (ix2 j d)
      = w (ix3 (unitE j) d (unitH j)) := by
  pointwise [unitE, unitH]

end

/-- On the words of the 2048 units' numbers, the host's floor division by 256 is the division of naturals: decided. -/
theorem floorWord : ∀ j : Fin 2048,
    Scalar.select
      (IntOp.andi
        (IntOp.cmpi CmpIPredicate.ne
          (if BitVec.ofNat 32 j.val = 0 then 0 else if (BitVec.ofNat 32 j.val).msb = true then -1 else 1)
          (if 256#32 = 0 then 0 else if (256#32).msb = true then -1 else (1 : BitVec 32)))
        (IntOp.cmpi CmpIPredicate.ne (IntOp.remsi ArithUnit.host (BitVec.ofNat 32 j.val) 256#32) 0#32))
      (IntOp.subi (IntOp.divsi ArithUnit.host (BitVec.ofNat 32 j.val) 256#32) 1#32)
      (IntOp.divsi ArithUnit.host (BitVec.ofNat 32 j.val) 256#32) = BitVec.ofNat 32 (j.val / 256) := by
  decide +kernel

/-- The floor division of unit `j`'s number is its expert's number. -/
theorem unitExpert_at (l : Fin 128) (j : Fin 2048) : unitExpert (ix2 l j) = BitVec.ofNat 32 (j.val / 256) := by
  pointwise [unitExpert]
  exact floorWord j

/-- The table at a lane and a unit: one where the lane is the unit's expert, zero elsewhere. -/
theorem table_at (l : Fin 128) (j : Fin 2048) :
    (uitofp .f32 (cmpi .eq unitExpert (iotaInDim S128x2048 32 0)) : FVec Ideal S128x2048 .f32) (ix2 l j)
      = if l = up (unitE j) then 1 else 0 := by
  have hl : (up (unitE j)).val = j.val / 256 := rfl
  have hj : j.val / 256 < 8 := (unitE j).isLt
  pointwise
  rw [unitExpert_at]
  by_cases h : l = up (unitE j)
  · rw [if_pos h, h, hl]
    simp [IntOp.cmpi, FloatOps.uitofp]
  · rw [if_neg h]
    have hne : BitVec.ofNat 32 (j.val / 256) ≠ BitVec.ofNat 32 l.val := fun e => h (Fin.ext (by
      have e' := congrArg BitVec.toNat e
      simp only [BitVec.toNat_ofNat] at e'
      omega))
    simp [IntOp.cmpi, FloatOps.uitofp, hne]

end Cert.KernelIdeal.Entry

end
-- ==== Proof.Equation.lean ====
/- The equation: the mixture as the kernel's block computes it — over 2048 hidden units and 128 lanes, through the table that sends a unit
   to its expert — is the mixture over eight experts and 256 units each. -/
module

public import proofs.«01_k».proof.Proof.MoeBlock
public import proofs.«01_k».proof.Proof.EntryAt
public import Idealize.ShloMosaic.Lib.Pipeline.ValueKit

@[expose] public section

set_option maxRecDepth 16384

noncomputable section

namespace Cert.KernelIdeal.Equation

open Idealize.ShloMosaic Cert.KernelIdeal Cert.KernelIdeal.Gen Cert.Gate Cert.KernelIdeal.Entry

/-- A sum over the 2048 hidden units, expert by expert. -/
theorem sum_units (f : Fin 8 → Fin 256 → EReal) : ∑ j : Fin 2048, f (unitE j) (unitH j) = ∑ e : Fin 8, ∑ h : Fin 256, f e h :=
  Fin.sum_divmod_fin 256 f

section
variable (x : Vec Ideal S512x2048 .f32) (wg : Vec Ideal S128x2048 .f32) (bg : Vec Ideal S1x128 .f32)
  (w1 : Vec Ideal S2048x2048 .f32) (b1 : Vec Ideal S1x2048 .f32) (w2 : Vec Ideal S2048x2048 .f32) (b2 : Vec Ideal S128x2048 .f32)
  (ex : Vec Ideal S128x2048 .f32)
  (X : FVec Ideal S4096x2048 .f32) (Wg : FVec Ideal S8x2048 .f32) (Bg : FVec Ideal S8 .f32) (W1 : FVec Ideal S8x256x2048 .f32)
  (B1 : FVec Ideal S8x256 .f32) (W2 : FVec Ideal S8x2048x256 .f32) (B2 : FVec Ideal S8x2048 .f32)

/-- The weight of the block's row `r` on a lane: the expert's weight of the array's row `n` on the first eight lanes, zero on the others. -/
theorem weight_eq (r : Fin 512) (n : Fin 4096) (hx : ∀ k, x (ix2 r k) = X (ix2 n k))
    (hwg : ∀ e k, wg (ix2 (up e) k) = Wg (ix2 e k)) (hbg : ∀ e, bg (ix2 0 (up e)) = Bg (ix1 e)) (l : Fin 128) :
    Block.weight x wg bg r l = if h : l.val < 8 then Spec.share X Wg Bg n ⟨l.val, h⟩ else 0 := by
  have hl : expertLogits (Block.logit x wg bg r) = Spec.logit X Wg Bg n := by
    funext e
    simp only [expertLogits, Block.logit, Spec.logit, hx, hwg, hbg]
  rw [Block.weight, laneWeight_eq, hl]
  rfl

/-- On an expert's lane. -/
theorem weight_up (r : Fin 512) (n : Fin 4096) (hx : ∀ k, x (ix2 r k) = X (ix2 n k))
    (hwg : ∀ e k, wg (ix2 (up e) k) = Wg (ix2 e k)) (hbg : ∀ e, bg (ix2 0 (up e)) = Bg (ix1 e)) (e : Fin 8) :
    Block.weight x wg bg r (up e) = Spec.share X Wg Bg n e := by
  rw [weight_eq x wg bg X Wg Bg r n hx hwg hbg, dif_pos (show (up e).val < 8 from e.isLt)]
  rfl

/-- THE MIXTURES ARE EQUAL: row `r` of a block, whose operands hold the arguments as the host laid them out, and row `n` of the array. -/
theorem mix_eq (r : Fin 512) (n : Fin 4096) (d : Fin 2048) (hx : ∀ k, x (ix2 r k) = X (ix2 n k))
    (hwg : ∀ e k, wg (ix2 (up e) k) = Wg (ix2 e k)) (hbg : ∀ e, bg (ix2 0 (up e)) = Bg (ix1 e))
    (hw1 : ∀ j k, w1 (ix2 j k) = W1 (ix3 (unitE j) (unitH j) k)) (hb1 : ∀ j, b1 (ix2 0 j) = B1 (ix2 (unitE j) (unitH j)))
    (hw2 : ∀ j, w2 (ix2 j d) = W2 (ix3 (unitE j) d (unitH j))) (hb2 : ∀ e, b2 (ix2 (up e) d) = B2 (ix2 e d))
    (hex : ∀ l j, ex (ix2 l j) = if l = up (unitE j) then 1 else 0) :
    (∑ j : Fin 2048, max (∑ k : Fin 2048, x (ix2 r k) * w1 (ix2 j k) + b1 (ix2 0 j)) 0
          * (∑ l : Fin 128, Block.weight x wg bg r l * ex (ix2 l j)) * w2 (ix2 j d))
        + ∑ l : Fin 128, Block.weight x wg bg r l * b2 (ix2 l d)
      = Spec.mixture X Wg Bg W1 B1 W2 B2 n d := by
  have hpick : ∀ j : Fin 2048, ∑ l : Fin 128, Block.weight x wg bg r l * ex (ix2 l j) = Spec.share X Wg Bg n (unitE j) := fun j => by
    rw [Finset.sum_eq_single (up (unitE j)) (fun l _ hl => by rw [hex, if_neg hl, mul_zero])
      (fun h => absurd (Finset.mem_univ _) h), hex, if_pos rfl, mul_one, weight_up x wg bg X Wg Bg r n hx hwg hbg]
  have hbias : ∑ l : Fin 128, Block.weight x wg bg r l * b2 (ix2 l d) = ∑ e : Fin 8, Spec.share X Wg Bg n e * B2 (ix2 e d) := by
    rw [sum_lanes _ (fun l hl => by rw [weight_eq x wg bg X Wg Bg r n hx hwg hbg, dif_neg (by omega), zero_mul])]
    exact Finset.sum_congr rfl fun e _ => by rw [weight_up x wg bg X Wg Bg r n hx hwg hbg, hb2]
  rw [hbias, Spec.mixture, ← sum_units]
  refine congrArg₂ (· + ·) (Finset.sum_congr rfl fun j _ => ?_) rfl
  rw [hpick, hw2, hb1]
  simp only [hx, hw1, Spec.hidden]

end

end Cert.KernelIdeal.Equation

end
-- ==== Proof.MoeArray.lean ====
/- What the mixture's call leaves in its result array: entry by entry, the layer's mixture of the arguments. -/
module

public import proofs.«01_k».proof.Proof.Equation

@[expose] public section

set_option maxRecDepth 16384

noncomputable section

namespace Cert.KernelIdeal.Moe

open Idealize.ShloMosaic Idealize.ShloMosaic.TcCoe Cert.KernelIdeal Cert.KernelIdeal.Gen Cert.Gate Cert.KernelIdeal.Entry

variable (m : (ℓ : Loc nD τ sig) → Buf (Elt Ideal) ℓ) (ρ : Dev nD → PrngReg) (c : Dev nD)

/-- The mixture of the arguments on core `c`, as an array. -/
def mixed : FVec Ideal S4096x2048 .f32 := fun i =>
  Spec.mixture (aX m c) (aWg m c) (aBg m c) (aW1 m c) (aB1 m c) (aW2 m c) (aB2 m c) (i 0) (i 1)

/-! Where each window's block stands at each point: the rows' and the result's move with the point, the others stay. -/

theorem index0 : ∀ t, win0_0.index t = ![t.val, 0] := by decide +kernel
theorem index1 : ∀ t, win0_1.index t = ![0, 0] := by decide +kernel
theorem index2 : ∀ t, win0_2.index t = ![0, 0] := by decide +kernel
theorem index3 : ∀ t, win0_3.index t = ![0, 0] := by decide +kernel
theorem index4 : ∀ t, win0_4.index t = ![0, 0] := by decide +kernel
theorem index5 : ∀ t, win0_5.index t = ![0, 0] := by decide +kernel
theorem index6 : ∀ t, win0_6.index t = ![0, 0] := by decide +kernel
theorem index7 : ∀ t, win0_7.index t = ![0, 0] := by decide +kernel
theorem index8 : ∀ t, win0_8.index t = ![t.val, 0] := by decide +kernel

/-- The row of the array that row `r` of block `t` is. -/
def rowOf (t : Fin 8) (r : Fin 512) : Fin 4096 := ⟨t.val * 512 + r.val, by omega⟩

section
variable (t : Fin cfg0.N)

/-- The call's block of rows, entry by entry: rows `512 t …` of the first argument. -/
theorem x_at (r : Fin 512) (k : Fin 2048) : iblk0 (V9 m ρ) c 0 t (ix2 r k) = aX m c (ix2 (rowOf t r) k) := by
  rw [← rows_arr m ρ c]
  blk_ext [iblk0, index0 t, rowOf]
/-- Its gate matrix on the experts' rows. -/
theorem wg_at (e : Fin 8) (k : Fin 2048) : iblk0 (V9 m ρ) c 1 t (ix2 (up e) k) = aWg m c (ix2 e k) := by
  rw [← padMat_at (aWg m c), ← gate_arr m ρ c]
  blk_ext [iblk0, index1 t]
/-- Its gate bias on the experts' lanes. -/
theorem bg_at (e : Fin 8) : iblk0 (V9 m ρ) c 2 t (ix2 0 (up e)) = aBg m c (ix1 e) := by
  rw [← padVec_at (aBg m c), ← gateBias_arr m ρ c]
  blk_ext [iblk0, index2 t]
/-- Its first layers, unit by unit. -/
theorem w1_at (j k : Fin 2048) : iblk0 (V9 m ρ) c 3 t (ix2 j k) = aW1 m c (ix3 (unitE j) (unitH j) k) := by
  rw [← stack_at (aW1 m c), ← first_arr m ρ c]
  blk_ext [iblk0, index3 t]
/-- Their biases. -/
theorem b1_at (j : Fin 2048) : iblk0 (V9 m ρ) c 4 t (ix2 0 j) = aB1 m c (ix2 (unitE j) (unitH j)) := by
  rw [← stackBias_at (aB1 m c), ← firstBias_arr m ρ c]
  blk_ext [iblk0, index4 t]
/-- Its second layers, unit by unit. -/
theorem w2_at (j d : Fin 2048) : iblk0 (V9 m ρ) c 5 t (ix2 j d) = aW2 m c (ix3 (unitE j) d (unitH j)) := by
  rw [← stackT_at (aW2 m c), ← second_arr m ρ c]
  blk_ext [iblk0, index5 t]
/-- Their biases. -/
theorem b2_at (e : Fin 8) (d : Fin 2048) : iblk0 (V9 m ρ) c 6 t (ix2 (up e) d) = aB2 m c (ix2 e d) := by
  rw [← padMat_at (aB2 m c), ← secondBias_arr m ρ c]
  blk_ext [iblk0, index6 t]
/-- Its table of units against experts. -/
theorem ex_at (l : Fin 128) (j : Fin 2048) : iblk0 (V9 m ρ) c 7 t (ix2 l j) = if l = up (unitE j) then (1 : EReal) else 0 := by
  rw [← table_at, ← table_arr m ρ c]
  blk_ext [iblk0, index7 t]

end

/-- THE MIXTURE'S ARRAY: after the last point it holds the mixture of the arguments. -/
theorem array_eq : (dat0 (V9 m ρ) c).arrAt 8 cfg0.N = mixed m c := by
  refine (dat0 (V9 m ρ) c).arrAt_eq_of_covers 8 _ (by decide +kernel) fun t hf y => ?_
  blk_simp
  rw [after0_8]
  frame_out
  idx_vars y
  have hi : ((View.whole main_v13).slice (win0_8.rect t)).emb (ix2 y0 y1) = (ix2 (rowOf t y0) y1 : S4096x2048.Idx) := by
    blk_ext [index8 t, rowOf]
  rw [hi]
  refine (Block.mix_at _ _ _ _ _ _ _ _ y0 y1).trans ?_
  exact Equation.mix_eq _ _ _ _ _ _ _ _ (aX m c) (aWg m c) (aBg m c) (aW1 m c) (aB1 m c) (aW2 m c) (aB2 m c) y0 (rowOf t y0) y1
    (x_at m ρ c t y0) (wg_at m ρ c t) (bg_at m ρ c t) (w1_at m ρ c t) (b1_at m ρ c t) (fun j => w2_at m ρ c t j y1)
    (fun e => b2_at m ρ c t e y1) (ex_at m ρ c t)

end Cert.KernelIdeal.Moe

end
-- ==== Proof.HeadsArray.lean ====
/- What the heads' call leaves in the two result arrays: entry by entry, the layer's two heads of the arguments. -/
module

public import proofs.«01_k».proof.Proof.MoeArray

@[expose] public section

set_option maxRecDepth 16384

noncomputable section

namespace Cert.KernelIdeal.Heads

open Idealize.ShloMosaic Idealize.ShloMosaic.TcCoe Cert.KernelIdeal Cert.KernelIdeal.Gen Idealize.ShloMosaic.StableHlo
open Cert.KernelIdeal.Entry Cert.KernelIdeal.Moe

variable (m : (ℓ : Loc nD τ sig) → Buf (Elt Ideal) ℓ) (ρ : Dev nD → PrngReg) (c : Dev nD)

/-- A head of the arguments on core `c`, as an array. -/
def headed (wh : FVec Ideal S2048x2048 .f32) (bh : FVec Ideal S2048 .f32) : FVec Ideal S4096x2048 .f32 := fun i =>
  Spec.head (aX m c) (aWg m c) (aBg m c) (aW1 m c) (aB1 m c) (aW2 m c) (aB2 m c) wh bh (i 0) (i 1)

/-! What the call finds in its operand arrays. -/

/-- The rows: what the mixture's call left. -/
theorem mixed_arr : V11 m ρ c main_v13 = mixed m c :=
  (W11_of m ρ c main_v13 (by decide)).trans ((W10_arr m ρ c 8).trans (array_eq m ρ c))

/-- The first head's matrix, as launched. -/
theorem wa_arr : V11 m ρ c main_arg7 = aWa m c := W11_args m ρ c main_arg7 (by decide)
/-- The second head's matrix, as launched. -/
theorem wb_arr : V11 m ρ c main_arg9 = aWb m c := W11_args m ρ c main_arg9 (by decide)

/-- The first head's bias, as a row. -/
theorem ba_arr : V11 m ρ c main_v14 = broadcastInDim S1x2048 ![1] bcast_S2048_S1x2048_1 (aBa m c) := by
  rw [← show W10 m ρ c (Proc.devRef .tc main_arg8) = aBa m c from W10_args m ρ c main_arg8 (by decide)]
  show W11 m ρ c (Proc.devRef .tc main_v14) = _
  simp only [W11, hostOps1, TRef.binary, TRef.nullary, TRef.unary, TRef.ternary, TRef.toBuf, TRef.ofBuf, cast_eq]
  after_results_simp
  try rfl

/-- The second head's bias, as a row. -/
theorem bb_arr : V11 m ρ c main_v15 = broadcastInDim S1x2048 ![1] bcast_S2048_S1x2048_1 (aBb m c) := by
  rw [← show W10 m ρ c (Proc.devRef .tc main_arg10) = aBb m c from W10_args m ρ c main_arg10 (by decide)]
  show W11 m ρ c (Proc.devRef .tc main_v15) = _
  simp only [W11, hostOps1, TRef.binary, TRef.nullary, TRef.unary, TRef.ternary, TRef.toBuf, TRef.ofBuf, cast_eq]
  after_results_simp
  try rfl

/-- A bias laid out as a row, at an entry. -/
theorem row_at (b : FVec Ideal S2048 .f32) (o : Fin 2048) :
    broadcastInDim S1x2048 ![1] bcast_S2048_S1x2048_1 b (ix2 0 o) = b (ix1 o) := by
  pointwise

/-! Where each window's block stands at each point. -/

theorem index0 : ∀ t, win1_0.index t = ![t.val, 0] := by decide +kernel
theorem index1 : ∀ t, win1_1.index t = ![0, 0] := by decide +kernel
theorem index2 : ∀ t, win1_2.index t = ![0, 0] := by decide +kernel
theorem index3 : ∀ t, win1_3.index t = ![0, 0] := by decide +kernel
theorem index4 : ∀ t, win1_4.index t = ![0, 0] := by decide +kernel
theorem index5 : ∀ t, win1_5.index t = ![t.val, 0] := by decide +kernel
theorem index6 : ∀ t, win1_6.index t = ![t.val, 0] := by decide +kernel

section
variable (t : Fin cfg1.N)

/-- The call's block of rows of the mixture. -/
theorem y_at (r : Fin 512) (d : Fin 2048) : iblk1 (V11 m ρ) c 0 t (ix2 r d) = mixed m c (ix2 (rowOf t r) d) := by
  rw [← mixed_arr m ρ c]
  blk_ext [iblk1, index0 t, rowOf]
/-- Its first matrix. -/
theorem wa_at (o d : Fin 2048) : iblk1 (V11 m ρ) c 1 t (ix2 o d) = aWa m c (ix2 o d) := by
  rw [← wa_arr m ρ c]
  blk_ext [iblk1, index1 t]
/-- Its first bias. -/
theorem ba_at (o : Fin 2048) : iblk1 (V11 m ρ) c 2 t (ix2 0 o) = aBa m c (ix1 o) := by
  rw [← row_at (aBa m c), ← ba_arr m ρ c]
  blk_ext [iblk1, index2 t]
/-- Its second matrix. -/
theorem wb_at (o d : Fin 2048) : iblk1 (V11 m ρ) c 3 t (ix2 o d) = aWb m c (ix2 o d) := by
  rw [← wb_arr m ρ c]
  blk_ext [iblk1, index3 t]
/-- Its second bias. -/
theorem bb_at (o : Fin 2048) : iblk1 (V11 m ρ) c 4 t (ix2 0 o) = aBb m c (ix1 o) := by
  rw [← row_at (aBb m c), ← bb_arr m ρ c]
  blk_ext [iblk1, index4 t]

end

/-- A head of a block of rows of the mixture is the head's entry in the array. -/
theorem head_eq (y : Vec Ideal S512x2048 .f32) (w : Vec Ideal S2048x2048 .f32) (b : Vec Ideal S1x2048 .f32)
    (wh : FVec Ideal S2048x2048 .f32) (bh : FVec Ideal S2048 .f32) (r : Fin 512) (n : Fin 4096) (o : Fin 2048)
    (hy : ∀ d, y (ix2 r d) = mixed m c (ix2 n d)) (hw : ∀ d, w (ix2 o d) = wh (ix2 o d)) (hb : b (ix2 0 o) = bh (ix1 o)) :
    ∑ d : Fin 2048, y (ix2 r d) * w (ix2 o d) + b (ix2 0 o) = headed m c wh bh (ix2 n o) := by
  simp only [hy, hw, hb]
  rfl

/-- THE FIRST RESULT: after the last point its array holds the first head of the arguments. -/
theorem res0_eq : (dat1 (V11 m ρ) c).arrAt 5 cfg1.N = headed m c (aWa m c) (aBa m c) := by
  refine (dat1 (V11 m ρ) c).arrAt_eq_of_covers 5 _ (by decide +kernel) fun t hf y => ?_
  blk_simp
  rw [after1_5]
  frame_out
  idx_vars y
  have hi : ((View.whole main_v16_0).slice (win1_5.rect t)).emb (ix2 y0 y1) = (ix2 (rowOf t y0) y1 : S4096x2048.Idx) := by
    blk_ext [index5 t, rowOf]
  rw [hi]
  refine (Block.head0_at _ _ _ y0 y1).trans ?_
  exact head_eq m c _ _ _ _ _ y0 _ y1 (y_at m ρ c t y0) (wa_at m ρ c t y1) (ba_at m ρ c t y1)

/-- THE SECOND RESULT: after the last point its array holds the second head of the arguments. -/
theorem res1_eq : (dat1 (V11 m ρ) c).arrAt 6 cfg1.N = headed m c (aWb m c) (aBb m c) := by
  refine (dat1 (V11 m ρ) c).arrAt_eq_of_covers 6 _ (by decide +kernel) fun t hf y => ?_
  blk_simp
  rw [after1_6]
  frame_out
  idx_vars y
  have hi : ((View.whole main_v16_1).slice (win1_6.rect t)).emb (ix2 y0 y1) = (ix2 (rowOf t y0) y1 : S4096x2048.Idx) := by
    blk_ext [index6 t, rowOf]
  rw [hi]
  refine (Block.head1_at _ _ _ y0 y1).trans ?_
  exact head_eq m c _ _ _ _ _ y0 _ y1 (y_at m ρ c t y0) (wb_at m ρ c t y1) (bb_at m ρ c t y1)

end Cert.KernelIdeal.Heads

end
-- ==== Proof.RefValue.lean ====
/- What the reference computes: its two results, read at an entry, are the layer's two heads. -/
module

public import proofs.«01_k».proof.Proof.Spec
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Entry

open Cert.ReferenceIdeal Cert.ReferenceIdeal.Gen Idealize.ShloMosaic Idealize.ShloMosaic.TcCoe Cert.TopTwo

section
variable (a0 : FVec Ideal S4096x2048 .f32) (a1 : FVec Ideal S8x2048 .f32) (a2 : FVec Ideal S8 .f32) (a3 : FVec Ideal S8x256x2048 .f32)
  (a4 : FVec Ideal S8x256 .f32) (a5 : FVec Ideal S8x2048x256 .f32) (a6 : FVec Ideal S8x2048 .f32) (a7 : FVec Ideal S2048x2048 .f32)
  (a8 : FVec Ideal S2048 .f32)

/-- The gate's logits, as the reference writes them. -/
def logits : FVec Ideal S4096x8 .f32 :=
  addf (Host.dotGeneral dot_S4096x2048_S2048x8_S4096x8_1_0_0_1_n_n none a0 (transpose S2048x8 [1, 0] a1 transposes_S8x2048_S2048x8_1_0)) (broadcastInDim S4096x8 ![0, 1] bcast_S1x8_S4096x8_0_1 (broadcastInDim S1x8 ![1] bcast_S8_S1x8_1 a2))

/-- The exponentials of an array of logits, each row's maximum taken off. -/
def exps (l : FVec Ideal S4096x8 .f32) : FVec Ideal S4096x8 .f32 :=
  Host.exp (subf l (broadcastInDim S4096x8 ![0, 1] bcast_S4096x1_S4096x8_0_1 (broadcastInDim S4096x1 ![0] bcast_S4096_S4096x1_0 (maximumf (broadcastInDim S4096 ![] bcast_S_S4096 (constant S_ .f32 0xFF800000#32)) (Host.reduce FloatOps.maximumf l (constant S_ .f32 0xFF800000#32) reducesTo_S4096x8_S4096_d1 h_S_)))))

/-- An array of exponentials, each row divided by its sum. -/
def probs (e : FVec Ideal S4096x8 .f32) : FVec Ideal S4096x8 .f32 :=
  Host.divf e (broadcastInDim S4096x8 ![0, 1] bcast_S4096x1_S4096x8_0_1 (broadcastInDim S4096x1 ![0] bcast_S4096_S4096x1_0 (Host.reduceAdd e (constant S_ .f32 0x00000000#32) reducesTo_S4096x8_S4096_d1 h_S_)))

/-- Each row's two greatest entries, with their positions. -/
def top (p : FVec Ideal S4096x8 .f32) : FVec Ideal S4096x2 .f32 × IVec S4096x2 32 :=
  Host.topK S4096x2 1 (FloatOps.cmpfTotal (F := Ideal) (φ := .f32) .gt) p sliceFits_S4096x8_S4096x2

/-- The weights of all experts: the chosen ones' rescaled values spread to their positions. -/
def spread (v : FVec Ideal S4096x2 .f32) (i : IVec S4096x2 32) : FVec Ideal S4096x8 .f32 :=
  Host.reduceAdd (mulf (uitofp .f32 (cmpi .eq (broadcastInDim S4096x2x8 ![0, 1, 2] bcast_S4096x2x1_S4096x2x8_0_1_2 (broadcastInDim S4096x2x1 ![0, 1] bcast_S4096x2_S4096x2x1_0_1 i)) (broadcastInDim S4096x2x8 ![0, 1, 2] bcast_S1x1x8_S4096x2x8_0_1_2 (iotaInDim S1x1x8 32 2)))) (broadcastInDim S4096x2x8 ![0, 1, 2] bcast_S4096x2x1_S4096x2x8_0_1_2 (broadcastInDim S4096x2x1 ![0, 1] bcast_S4096x2_S4096x2x1_0_1 (Host.divf v (broadcastInDim S4096x2 ![0, 1] bcast_S4096x1_S4096x2_0_1 (broadcastInDim S4096x1 ![0] bcast_S4096_S4096x1_0 (Host.reduceAdd v (constant S_ .f32 0x00000000#32) reducesTo_S4096x2_S4096_d1 h_S_))))))) (constant S_ .f32 0x00000000#32) reducesTo_S4096x2x8_S4096x8_d1 h_S_

/-- The weights from the arguments. -/
def weights : FVec Ideal S4096x8 .f32 :=
  spread (top (probs (exps (logits a0 a1 a2)))).1 (top (probs (exps (logits a0 a1 a2)))).2

/-- The mixture under given weights. -/
def mix (w : FVec Ideal S4096x8 .f32) : FVec Ideal S4096x2048 .f32 :=
  addf (Host.dotGeneral dot_S4096x8x256_S8x2048x256_S4096x2048_12_02_0_1_n_n none (mulf (maximumf (addf (Host.dotGeneral dot_S4096x2048_S8x256x2048_S4096x8x256_1_2_0_01_n_n none a0 a3) (broadcastInDim S4096x8x256 ![0, 1, 2] bcast_S1x8x256_S4096x8x256_0_1_2 (broadcastInDim S1x8x256 ![1, 2] bcast_S8x256_S1x8x256_1_2 a4))) (broadcastInDim S4096x8x256 ![] bcast_S_S4096x8x256 (constant S_ .f32 0x00000000#32))) (broadcastInDim S4096x8x256 ![0, 1, 2] bcast_S4096x8x1_S4096x8x256_0_1_2 (broadcastInDim S4096x8x1 ![0, 1] bcast_S4096x8_S4096x8x1_0_1 w))) a5) (Host.dotGeneral dot_S4096x8_S8x2048_S4096x2048_1_0_0_1_n_n none w a6)

/-- A linear head on an array. -/
def linear (y : FVec Ideal S4096x2048 .f32) : FVec Ideal S4096x2048 .f32 :=
  addf (Host.dotGeneral dot_S4096x2048_S2048x2048_S4096x2048_1_0_0_1_n_n none y (transpose S2048x2048 [1, 0] a7 transposes_S2048x2048_S2048x2048_1_0)) (broadcastInDim S4096x2048 ![0, 1] bcast_S1x2048_S4096x2048_0_1 (broadcastInDim S1x2048 ![1] bcast_S2048_S1x2048_1 a8))

/-- The logits at an entry. -/
theorem logits_at (n : Fin 4096) (e : Fin 8) : logits a0 a1 a2 (ix2 n e) = Spec.logit a0 a1 a2 n e := by
  pointwise [logits, Spec.logit]

/-- The exponentials at an entry. -/
theorem exps_at (l : FVec Ideal S4096x8 .f32) (n : Fin 4096) (e : Fin 8) :
    exps l (ix2 n e) = Gate.ex (fun j => l (ix2 n j)) e := by
  pointwise [exps, Gate.ex, Gate.rowMax]
  rw [Gate.bits_negInf, max_eq_right bot_le]

/-- The probabilities at an entry. -/
theorem probs_at (v : FVec Ideal S4096x8 .f32) (n : Fin 4096) (e : Fin 8) :
    probs v (ix2 n e) = Ideal.div (v (ix2 n e)) (∑ j : Fin 8, v (ix2 n j)) := by
  pointwise [probs]
  done

/-- Going along the second axis to position `q` from any entry of row `n`. -/
theorem along_row (n : Fin 4096) (k q : Fin 8) :
    Shape.Idx.along (s := S4096x8) (ix2 n k) 1 q = ix2 n q := by
  funext a
  unfold Shape.Idx.along
  match a with
  | ⟨0, _⟩ => rfl
  | ⟨1, _⟩ => rfl

/-- The sort's comparator on the extended reals asks which is greater. -/
theorem sorts_by (f : Fin 8 → EReal) :
    (fun k k' => FloatOps.cmpfTotal (F := Ideal) (φ := .f32) .gt (f k) (f k') == 1#1) = greater f := by
  funext a b
  show (BitVec.ofBool (decide (f b < f a)) == 1#1) = decide (f b < f a)
  cases decide (f b < f a) <;> rfl

/-- The sort of row `n`, asked through any of its entries, is the ranking of its values. -/
theorem sort_row (p : FVec Ideal S4096x8 .f32) (n : Fin 4096) (k q : Fin 8) :
    sortedFrom (n := 8) (fun a b => FloatOps.cmpfTotal (F := Ideal) (φ := .f32) .gt (p (Shape.Idx.along (s := S4096x8) (ix2 n k) 1 a))
      (p (Shape.Idx.along (s := S4096x8) (ix2 n k) 1 b)) == 1#1) q = rank (fun j => p (ix2 n j)) q := by
  have e : (fun a b : Fin 8 => FloatOps.cmpfTotal (F := Ideal) (φ := .f32) .gt (p (Shape.Idx.along (s := S4096x8) (ix2 n k) 1 a))
      (p (Shape.Idx.along (s := S4096x8) (ix2 n k) 1 b)) == 1#1) = greater fun j => p (ix2 n j) := by
    rw [← sorts_by]
    funext a b
    rw [along_row, along_row]
  unfold rank
  rw [e]

/-- The two greatest entries of a row, read at their place. -/
theorem top_val (p : FVec Ideal S4096x8 .f32) (n : Fin 4096) (k : Fin 2) :
    (top p).1 (ix2 n k) = p (ix2 n (rank (fun j => p (ix2 n j)) ⟨k.val, by omega⟩)) := by
  unfold top Host.topK Host.sort2
  pointwise
  refine congrArg p ((congrArg (Shape.Idx.along (s := S4096x8) (ix2 n ⟨k.val, by omega⟩) 1) (sort_row p n ⟨k.val, by omega⟩ ⟨k.val, by omega⟩)).trans ?_)
  exact along_row n _ _

/-- Their positions, read at their place. -/
theorem top_pos (p : FVec Ideal S4096x8 .f32) (n : Fin 4096) (k : Fin 2) :
    (top p).2 (ix2 n k) = BitVec.ofNat 32 (rank (fun j => p (ix2 n j)) ⟨k.val, by omega⟩).val := by
  unfold top Host.topK Host.sort2
  pointwise
  refine (congrArg (fun q : Fin 8 => BitVec.ofNat 32 (Shape.Idx.along (s := S4096x8) (ix2 n ⟨k.val, by omega⟩) 1 q 1).val)
    (sort_row p n ⟨k.val, by omega⟩ ⟨k.val, by omega⟩)).trans ?_
  simp only [along_row]
  rfl

/-- The comparison of two small words, made a float. -/
theorem oneHot (a b : Fin 8) :
    FloatOps.uitofp (F := Ideal) .f32 (IntOp.cmpi .eq (BitVec.ofNat 32 a.val) (BitVec.ofNat 32 b.val)) = if b = a then (1 : EReal) else 0 := by
  have h : IntOp.cmpi .eq (BitVec.ofNat 32 a.val) (BitVec.ofNat 32 b.val) = if b = a then 1#1 else 0#1 := by
    revert a b; decide +kernel
  rw [h]
  show (((if b = a then 1#1 else 0#1 : BitVec 1).toNat : ℝ) : EReal) = _
  split <;> simp

/-- The spread weights at an entry. -/
theorem spread_at (v : FVec Ideal S4096x2 .f32) (i : IVec S4096x2 32) (n : Fin 4096) (e : Fin 8) :
    spread v i (ix2 n e) = ∑ k : Fin 2, FloatOps.uitofp (F := Ideal) .f32 (IntOp.cmpi .eq (i (ix2 n k)) (BitVec.ofNat 32 e.val))
        * Ideal.div (v (ix2 n k)) (∑ k : Fin 2, v (ix2 n k)) := by
  pointwise [spread]

/-- The reference's weights are the layer's. -/
theorem weights_at (n : Fin 4096) (e : Fin 8) : weights a0 a1 a2 (ix2 n e) = Spec.share a0 a1 a2 n e := by
  have hp : ∀ j, probs (exps (logits a0 a1 a2)) (ix2 n j) = Gate.prob (Spec.logit a0 a1 a2 n) j := fun j => by
    rw [probs_at]
    simp only [exps_at, logits_at]
    rfl
  have hr : (fun j => probs (exps (logits a0 a1 a2)) (ix2 n j)) = Gate.prob (Spec.logit a0 a1 a2 n) := funext hp
  unfold weights
  rw [spread_at]
  simp only [top_val, top_pos, hr, hp, oneHot, Fin.sum_univ_two]
  simp only [ite_mul, one_mul, zero_mul]
  rfl

/-- The mixture at an entry. -/
theorem mix_at (w : FVec Ideal S4096x8 .f32) (n : Fin 4096) (d : Fin 2048) :
    mix a0 a3 a4 a5 a6 w (ix2 n d)
      = (∑ e : Fin 8, ∑ h : Fin 256, Spec.hidden a0 a3 a4 n e h * w (ix2 n e) * a5 (ix3 e d h)) + ∑ e : Fin 8, w (ix2 n e) * a6 (ix2 e d) := by
  pointwise [mix, Spec.hidden]
  done

/-- The head at an entry. -/
theorem linear_at (y : FVec Ideal S4096x2048 .f32) (n : Fin 4096) (o : Fin 2048) :
    linear a7 a8 y (ix2 n o) = ∑ d : Fin 2048, y (ix2 n d) * a7 (ix2 o d) + a8 (ix1 o) := by
  pointwise [linear]

/-- Result 1 of the reference is a head on the mixture, operation by operation. -/
theorem res0_eq (m : (ℓ : Loc nD τ sig) → Buf (Elt Ideal) ℓ) (c : Dev nD) :
    Value.res_main_v40 (F := Ideal) m c
      = linear (m ((c.tc : Thread nD τ).loc main_arg7)) (m ((c.tc : Thread nD τ).loc main_arg8)) (mix (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (weights (m ((c.tc : Thread nD τ).loc main_arg0)) (m ((c.tc : Thread nD τ).loc main_arg1)) (m ((c.tc : Thread nD τ).loc main_arg2)))) := rfl

/-- Result 1 of the reference at an entry. -/
theorem res0_at (m : (ℓ : Loc nD τ sig) → Buf (Elt Ideal) ℓ) (c : Dev nD) (n : Fin 4096) (o : Fin 2048) :
    Value.res_main_v40 (F := Ideal) m c (ix2 n o)
      = Spec.head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) n o := by
  rw [res0_eq]
  refine (linear_at _ _ _ n o).trans ?_
  simp only [mix_at, weights_at]
  rfl

/-- Result 2 of the reference is a head on the mixture, operation by operation. -/
theorem res1_eq (m : (ℓ : Loc nD τ sig) → Buf (Elt Ideal) ℓ) (c : Dev nD) :
    Value.res_main_v45 (F := Ideal) m c
      = linear (m ((c.tc : Thread nD τ).loc main_arg9)) (m ((c.tc : Thread nD τ).loc main_arg10)) (mix (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (weights (m ((c.tc : Thread nD τ).loc main_arg0)) (m ((c.tc : Thread nD τ).loc main_arg1)) (m ((c.tc : Thread nD τ).loc main_arg2)))) := rfl

/-- Result 2 of the reference at an entry. -/
theorem res1_at (m : (ℓ : Loc nD τ sig) → Buf (Elt Ideal) ℓ) (c : Dev nD) (n : Fin 4096) (o : Fin 2048) :
    Value.res_main_v45 (F := Ideal) m c (ix2 n o)
      = Spec.head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) n o := by
  rw [res1_eq]
  refine (linear_at _ _ _ n o).trans ?_
  simp only [mix_at, weights_at]
  rfl

end

end Cert.ReferenceIdeal.Entry

end
-- ==== Proof.lean ====
/- The five claims put together: the three programs' frames, the idealization, and the equality of the idealized kernel's two results with
   the idealized reference's. What the kernel's arrays hold is in Proof/HeadsArray, what the reference's hold in Proof/RefValue. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.HeadsArray
public import proofs.«01_k».proof.Proof.RefValue
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Cert.Kernel

/-- The kernel runs, its arguments end unchanged, every counter ends at zero. -/
theorem frame_K [Cert.Kernel.Facts] : Cert.quiescent_Kernel := fun m g _ => Cert.Kernel.Gen.frame m g

/-- The idealized kernel likewise. -/
theorem frame_KI [Cert.KernelIdeal.Facts] : Cert.quiescent_KernelIdeal := fun m g _ => Cert.KernelIdeal.Gen.frame m g

/-- The idealized reference likewise: its program has no counters. -/
theorem frame_RI [Cert.ReferenceIdeal.Facts] : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- Equal arguments have equal heads. -/
theorem head_congr {x x' : Spec.Arr 2 ![4096, 2048]} {wg wg' : Spec.Arr 2 ![8, 2048]} {bg bg' : Spec.Arr 1 ![8]}
    {w1 w1' : Spec.Arr 3 ![8, 256, 2048]} {b1 b1' : Spec.Arr 2 ![8, 256]} {w2 w2' : Spec.Arr 3 ![8, 2048, 256]}
    {b2 b2' : Spec.Arr 2 ![8, 2048]} {wh wh' : Spec.Arr 2 ![2048, 2048]} {bh bh' : Spec.Arr 1 ![2048]}
    (hx : x = x') (hwg : wg = wg') (hbg : bg = bg') (hw1 : w1 = w1') (hb1 : b1 = b1') (hw2 : w2 = w2') (hb2 : b2 = b2')
    (hwh : wh = wh') (hbh : bh = bh') (n : Fin 4096) (o : Fin 2048) :
    Spec.head x wg bg w1 b1 w2 b2 wh bh n o = Spec.head x' wg' bg' w1' b1' w2' b2' wh' bh' n o := by
  rw [hx, hwg, hbg, hw1, hb1, hw2, hb2, hwh, hbh]

/-- THE RESULTS ARE EQUAL: from memories agreeing on the arguments, the idealized kernel and the idealized reference end with the same two
    arrays, entry by entry the two heads of the layer's mixture. -/
theorem algebraic [Cert.KernelIdeal.Facts] [Cert.ReferenceIdeal.Facts] : Cert.algebraic_KernelIdeal_ReferenceIdeal := by
  intro m g m' g' _ hagree
  refine ⟨fun c => Cert.KernelIdeal.Heads.headed m c (Cert.KernelIdeal.Entry.aWa m c) (Cert.KernelIdeal.Entry.aBa m c),
    fun c => Cert.KernelIdeal.Heads.headed m c (Cert.KernelIdeal.Entry.aWb m c) (Cert.KernelIdeal.Entry.aBb m c), ?_, ?_⟩
  · refine (θ_run Cert.KernelIdeal.defs _ _).mono (fun r h c => ?_) (Cert.KernelIdeal.Run.run (F := Ideal) m g)
    exact ⟨(h c).1.trans (Cert.KernelIdeal.Heads.res0_eq m g c), (h c).2.1.trans (Cert.KernelIdeal.Heads.res1_eq m g c), (h c).2.2⟩
  · refine (θ_run Cert.ReferenceIdeal.defs _ _).mono (fun r h c => ?_) (Cert.ReferenceIdeal.Value.run (F := Ideal) m' g')
    obtain ⟨e0, e1, e2, e3, e4, e5, e6, e7, e8, e9, e10⟩ := hagree c
    refine ⟨(h c).1.trans (funext fun i => ?_), (h c).2.1.trans (funext fun i => ?_), (h c).2.2⟩
    · idx_vars i
      exact (Cert.ReferenceIdeal.Entry.res0_at m' c i0 i1).trans (head_congr e0 e1 e2 e3 e4 e5 e6 e7 e8 i0 i1)
    · idx_vars i
      exact (Cert.ReferenceIdeal.Entry.res1_at m' c i0 i1).trans (head_congr e0 e1 e2 e3 e4 e5 e6 e9 e10 i0 i1)

theorem claim : Cert.Claim := ⟨Cert.Kernel.Gen.facts, Cert.KernelIdeal.Gen.facts, Cert.ReferenceIdeal.Gen.facts,
  frame_K, frame_KI, frame_RI, trivial, algebraic⟩

end Cert.Proof

end
